-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S64x256x32x4 : Shape := ⟨4, ![64, 256, 32, 4]⟩
abbrev S32x1 : Shape := ⟨2, ![32, 1]⟩
abbrev S32 : Shape := ⟨1, ![32]⟩
abbrev S2x32 : Shape := ⟨2, ![2, 32]⟩
abbrev S32x32 : Shape := ⟨2, ![32, 32]⟩
abbrev S128x128 : Shape := ⟨2, ![128, 128]⟩
abbrev S128 : Shape := ⟨1, ![128]⟩
abbrev S64x32 : Shape := ⟨2, ![64, 32]⟩
abbrev S64x256x32x2 : Shape := ⟨4, ![64, 256, 32, 2]⟩
abbrev S_ : Shape := ⟨0, ![]⟩

class Facts : Prop where
  slices_S64x256x32x4_S64x256x32x2_0_0_0_1 : S64x256x32x4.Slices ![0, 0, 0, 1] S64x256x32x2
  bcast_S_S64x256x32x4 : S_.BroadcastsInDim S64x256x32x4 (![] : Fin 0 → Fin S64x256x32x4.rank)
  bcast_S_S32x1 : S_.BroadcastsInDim S32x1 (![] : Fin 0 → Fin S32x1.rank)
  bcast_S_S32 : S_.BroadcastsInDim S32 (![] : Fin 0 → Fin S32.rank)
  bcast_S_S2x32 : S_.BroadcastsInDim S2x32 (![] : Fin 0 → Fin S2x32.rank)
  bcast_S_S32x32 : S_.BroadcastsInDim S32x32 (![] : Fin 0 → Fin S32x32.rank)
  bcast_S_S128x128 : S_.BroadcastsInDim S128x128 (![] : Fin 0 → Fin S128x128.rank)
  bcast_S_S128 : S_.BroadcastsInDim S128 (![] : Fin 0 → Fin S128.rank)
  bcast_S_S64x256x32x2 : S_.BroadcastsInDim S64x256x32x2 (![] : Fin 0 → Fin S64x256x32x2.rank)

variable [Facts]

def fn_part2 {F : FTy → Type} [FloatOps F] (main_arg9 : FVec F S128 .f32) (main_arg10 : IVec S64x32 1) (main_v3 : IVec S64x256x32x4 1) (main_v6 : IVec S32x1 1) (main_v9 : IVec S32 1) (main_v12 : IVec S2x32 1) (main_v15 : IVec S2x32 1) (main_v18 : IVec S32x32 1) (main_v21 : IVec S128x128 1) (main_v24 : IVec S128 1) (main_v27 : IVec S128 1) (main_v32 : IVec S64x256x32x2 1) (main_v34 : IVec S128 1) (main_cst_11 : FVec F S_ .f32) : IVec S64x256x32x4 1 × IVec S32x1 1 × IVec S32 1 × IVec S2x32 1 × IVec S2x32 1 × IVec S32x32 1 × IVec S128x128 1 × IVec S128 1 × IVec S128 1 × IVec S64x256x32x2 1 × IVec S128 1 × IVec S128 1 × IVec S64x32 1 :=
  let main_v35 : FVec F S128 .f32 := broadcastInDim S128 ![] bcast_S_S128 main_cst_11
  let main_v36 : IVec S128 1 := cmpf .oeq main_arg9 main_v35
  (main_v3, main_v6, main_v9, main_v12, main_v15, main_v18, main_v21, main_v24, main_v27, main_v32, main_v34, main_v36, main_arg10)

def fn_part1 {F : FTy → Type} [FloatOps F] (main_arg6 : FVec F S128x128 .f32) (main_arg7 : FVec F S128 .f32) (main_arg8 : FVec F S128 .f32) (main_arg9 : FVec F S128 .f32) (main_arg10 : IVec S64x32 1) (main_v0 : FVec F S64x256x32x2 .f32) (main_v3 : IVec S64x256x32x4 1) (main_v6 : IVec S32x1 1) (main_v9 : IVec S32 1) (main_v12 : IVec S2x32 1) (main_v15 : IVec S2x32 1) (main_v16 : FVec F S32x32 .f32) (main_v17 : FVec F S32x32 .f32) : IVec S64x256x32x4 1 × IVec S32x1 1 × IVec S32 1 × IVec S2x32 1 × IVec S2x32 1 × IVec S32x32 1 × IVec S128x128 1 × IVec S128 1 × IVec S128 1 × IVec S64x256x32x2 1 × IVec S128 1 × IVec S128 1 × IVec S64x32 1 :=
  let main_v18 : IVec S32x32 1 := cmpf .olt main_v16 main_v17
  let main_v19 : FVec F S128x128 .f32 := Host.absf main_arg6
  let main_cst_5 : FVec F S_ .f32 := constant S_ .f32 0x7F800000#32
  let main_v20 : FVec F S128x128 .f32 := broadcastInDim S128x128 ![] bcast_S_S128x128 main_cst_5
  let main_v21 : IVec S128x128 1 := cmpf .olt main_v19 main_v20
  let main_v22 : FVec F S128 .f32 := Host.absf main_arg7
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  let main_v25 : FVec F S128 .f32 := Host.absf main_arg8
  let main_cst_7 : FVec F S_ .f32 := constant S_ .f32 0x7F800000#32
  let main_v26 : FVec F S128 .f32 := broadcastInDim S128 ![] bcast_S_S128 main_cst_7
  let main_v27 : IVec S128 1 := cmpf .olt main_v25 main_v26
  let main_cst_8 : FVec F S_ .f32 := constant S_ .f32 0xBF800000#32
  let main_v28 : FVec F S64x256x32x2 .f32 := broadcastInDim S64x256x32x2 ![] bcast_S_S64x256x32x2 main_cst_8
  let main_v29 : IVec S64x256x32x2 1 := cmpf .ogt main_v0 main_v28
  let main_cst_9 : FVec F S_ .f32 := constant S_ .f32 0x40000000#32
  let main_v30 : FVec F S64x256x32x2 .f32 := broadcastInDim S64x256x32x2 ![] bcast_S_S64x256x32x2 main_cst_9
  let main_v31 : IVec S64x256x32x2 1 := cmpf .olt main_v0 main_v30
  let main_v32 : IVec S64x256x32x2 1 := andi main_v29 main_v31
  let main_cst_10 : FVec F S_ .f32 := constant S_ .f32 0x00000000#32
  let main_v33 : FVec F S128 .f32 := broadcastInDim S128 ![] bcast_S_S128 main_cst_10
  let main_v34 : IVec S128 1 := cmpf .une main_arg8 main_v33
  let main_cst_11 : FVec F S_ .f32 := constant S_ .f32 0x00000000#32
  fn_part2 (F := F) main_arg9 main_arg10 main_v3 main_v6 main_v9 main_v12 main_v15 main_v18 main_v21 main_v24 main_v27 main_v32 main_v34 main_cst_11

def fn {F : FTy → Type} [FloatOps F] (main_arg0 : FVec F S64x256x32x4 .f32) (main_arg1 : FVec F S32x1 .f32) (main_arg2 : FVec F S32 .f32) (main_arg3 : FVec F S2x32 .f32) (main_arg4 : FVec F S2x32 .f32) (main_arg5 : FVec F S32x32 .f32) (main_arg6 : FVec F S128x128 .f32) (main_arg7 : FVec F S128 .f32) (main_arg8 : FVec F S128 .f32) (main_arg9 : FVec F S128 .f32) (main_arg10 : IVec S64x32 1) : IVec S64x256x32x4 1 × IVec S32x1 1 × IVec S32 1 × IVec S2x32 1 × IVec S2x32 1 × IVec S32x32 1 × IVec S128x128 1 × IVec S128 1 × IVec S128 1 × IVec S64x256x32x2 1 × IVec S128 1 × IVec S128 1 × IVec S64x32 1 :=
  let main_v0 : FVec F S64x256x32x2 .f32 := (extractStridedSlice S64x256x32x2 ![0, 0, 0, 1] · slices_S64x256x32x4_S64x256x32x2_0_0_0_1) main_arg0
  let main_v1 : FVec F S64x256x32x4 .f32 := Host.absf main_arg0
  let main_cst : FVec F S_ .f32 := constant S_ .f32 0x7F800000#32
  let main_v2 : FVec F S64x256x32x4 .f32 := broadcastInDim S64x256x32x4 ![] bcast_S_S64x256x32x4 main_cst
  let main_v3 : IVec S64x256x32x4 1 := cmpf .olt main_v1 main_v2
  let main_v4 : FVec F S32x1 .f32 := Host.absf main_arg1
  let main_cst_0 : FVec F S_ .f32 := constant S_ .f32 0x7F800000#32
  let main_v5 : FVec F S32x1 .f32 := broadcastInDim S32x1 ![] bcast_S_S32x1 main_cst_0
  let main_v6 : IVec S32x1 1 := cmpf .olt main_v4 main_v5
  let main_v7 : FVec F S32 .f32 := Host.absf main_arg2
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : FVec F S2x32 .f32 := Host.absf main_arg3
  let main_cst_2 : FVec F S_ .f32 := constant S_ .f32 0x7F800000#32
  let main_v11 : FVec F S2x32 .f32 := broadcastInDim S2x32 ![] bcast_S_S2x32 main_cst_2
  let main_v12 : IVec S2x32 1 := cmpf .olt main_v10 main_v11
  let main_v13 : FVec F S2x32 .f32 := Host.absf main_arg4
  let main_cst_3 : FVec F S_ .f32 := constant S_ .f32 0x7F800000#32
  let main_v14 : FVec F S2x32 .f32 := broadcastInDim S2x32 ![] bcast_S_S2x32 main_cst_3
  let main_v15 : IVec S2x32 1 := cmpf .olt main_v13 main_v14
  let main_v16 : FVec F S32x32 .f32 := Host.absf main_arg5
  let main_cst_4 : FVec F S_ .f32 := constant S_ .f32 0x7F800000#32
  let main_v17 : FVec F S32x32 .f32 := broadcastInDim S32x32 ![] bcast_S_S32x32 main_cst_4
  fn_part1 (F := F) main_arg6 main_arg7 main_arg8 main_arg9 main_arg10 main_v0 main_v3 main_v6 main_v9 main_v12 main_v15 main_v16 main_v17
-- ==== Kernel.lean ====
abbrev S64x256x32x4 : Shape := ⟨4, ![64, 256, 32, 4]⟩
abbrev S32x1 : Shape := ⟨2, ![32, 1]⟩
abbrev S32 : Shape := ⟨1, ![32]⟩
abbrev S2x32 : Shape := ⟨2, ![2, 32]⟩
abbrev S32x32 : Shape := ⟨2, ![32, 32]⟩
abbrev S128x128 : Shape := ⟨2, ![128, 128]⟩
abbrev S128 : Shape := ⟨1, ![128]⟩
abbrev S64x32 : Shape := ⟨2, ![64, 32]⟩
abbrev S524288x4 : Shape := ⟨2, ![524288, 4]⟩
abbrev S4x524288 : Shape := ⟨2, ![4, 524288]⟩
abbrev S1x32 : Shape := ⟨2, ![1, 32]⟩
abbrev S_ : Shape := ⟨0, ![]⟩
abbrev S8x32 : Shape := ⟨2, ![8, 32]⟩
abbrev S1x128 : Shape := ⟨2, ![1, 128]⟩
abbrev S5x128 : Shape := ⟨2, ![5, 128]⟩
abbrev S8x128 : Shape := ⟨2, ![8, 128]⟩
abbrev S40x128 : Shape := ⟨2, ![40, 128]⟩
abbrev S32x8 : Shape := ⟨2, ![32, 8]⟩
abbrev S32x128 : Shape := ⟨2, ![32, 128]⟩
abbrev S2x128 : Shape := ⟨2, ![2, 128]⟩
abbrev S1 : Shape := ⟨1, ![1]⟩
abbrev S1x1 : Shape := ⟨2, ![1, 1]⟩
abbrev S4x128 : Shape := ⟨2, ![4, 128]⟩
abbrev S40x40 : Shape := ⟨2, ![40, 40]⟩
abbrev S32x40 : Shape := ⟨2, ![32, 40]⟩
abbrev S524288x128 : Shape := ⟨2, ![524288, 128]⟩
abbrev S4x16384 : Shape := ⟨2, ![4, 16384]⟩
abbrev S16384x128 : Shape := ⟨2, ![16384, 128]⟩
abbrev S4x8192 : Shape := ⟨2, ![4, 8192]⟩
abbrev S4x1 : Shape := ⟨2, ![4, 1]⟩
abbrev S1x8192 : Shape := ⟨2, ![1, 8192]⟩
abbrev S40x8192 : Shape := ⟨2, ![40, 8192]⟩
abbrev S32x8192 : Shape := ⟨2, ![32, 8192]⟩
abbrev S8x8192 : Shape := ⟨2, ![8, 8192]⟩
abbrev S8192x128 : Shape := ⟨2, ![8192, 128]⟩
abbrev S64x256x32x128 : Shape := ⟨4, ![64, 256, 32, 128]⟩

abbrev nBuf : Space → Nat
  | .hbm => 29
  | .vmem => 12
  | .smem => 0
  | _ => 0

abbrev bufTy : (tb : Table) → Fin (tcTables nBuf tb) → BufTy
  | .hbm, ⟨0, _⟩ => ⟨S64x256x32x4, .f32⟩
  | .hbm, ⟨1, _⟩ => ⟨S32x1, .f32⟩
  | .hbm, ⟨2, _⟩ => ⟨S32, .f32⟩
  | .hbm, ⟨3, _⟩ => ⟨S2x32, .f32⟩
  | .hbm, ⟨4, _⟩ => ⟨S2x32, .f32⟩
  | .hbm, ⟨5, _⟩ => ⟨S32x32, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x32, .i1⟩
  | .hbm, ⟨11, _⟩ => ⟨S524288x4, .f32⟩
  | .hbm, ⟨12, _⟩ => ⟨S4x524288, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S2x32, .f32⟩
  | .hbm, ⟨17, _⟩ => ⟨S8x32, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S5x128, .f32⟩
  | .hbm, ⟨23, _⟩ => ⟨S8x128, .f32⟩
  | .hbm, ⟨24, _⟩ => ⟨S128x128, .f32⟩
  | .hbm, ⟨25, _⟩ => ⟨S40x128, .f32⟩
  | .hbm, ⟨26, _⟩ => ⟨S32x8, .f32⟩
  | .hbm, ⟨27, _⟩ => ⟨S524288x128, .f32⟩
  | .hbm, ⟨28, _⟩ => ⟨S64x256x32x128, .f32⟩
  | .local _ .vmem, ⟨0, _⟩ => ⟨S8x32, .f32⟩
  | .local _ .vmem, ⟨1, _⟩ => ⟨S8x128, .f32⟩
  | .local _ .vmem, ⟨2, _⟩ => ⟨S32x32, .f32⟩
  | .local _ .vmem, ⟨3, _⟩ => ⟨S128x128, .f32⟩
  | .local _ .vmem, ⟨4, _⟩ => ⟨S40x128, .f32⟩
  | .local _ .vmem, ⟨5, _⟩ => ⟨S32x8, .f32⟩
  | .local _ .vmem, ⟨6, _⟩ => ⟨S4x16384, .f32⟩
  | .local _ .vmem, ⟨7, _⟩ => ⟨S4x16384, .f32⟩
  | .local _ .vmem, ⟨8, _⟩ => ⟨S40x128, .f32⟩
  | .local _ .vmem, ⟨9, _⟩ => ⟨S32x8, .f32⟩
  | .local _ .vmem, ⟨10, _⟩ => ⟨S16384x128, .f32⟩
  | .local _ .vmem, ⟨11, _⟩ => ⟨S16384x128, .f32⟩
  | _, _ => ⟨S64x256x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := .none

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S64x256x32x4 : Shape := ⟨4, ![64, 256, 32, 4]⟩
abbrev S32x1 : Shape := ⟨2, ![32, 1]⟩
abbrev S32 : Shape := ⟨1, ![32]⟩
abbrev S2x32 : Shape := ⟨2, ![2, 32]⟩
abbrev S32x32 : Shape := ⟨2, ![32, 32]⟩
abbrev S128x128 : Shape := ⟨2, ![128, 128]⟩
abbrev S128 : Shape := ⟨1, ![128]⟩
abbrev S64x32 : Shape := ⟨2, ![64, 32]⟩
abbrev S64x256x32x1 : Shape := ⟨4, ![64, 256, 32, 1]⟩
abbrev S64x256x32 : Shape := ⟨3, ![64, 256, 32]⟩
abbrev S1x32 : Shape := ⟨2, ![1, 32]⟩
abbrev S64x256x32x32 : Shape := ⟨4, ![64, 256, 32, 32]⟩
abbrev S1x1x1x32 : Shape := ⟨4, ![1, 1, 1, 32]⟩
abbrev S_ : Shape := ⟨0, ![]⟩
abbrev S1 : Shape := ⟨1, ![1]⟩
abbrev S1x1x1x1 : Shape := ⟨4, ![1, 1, 1, 1]⟩
abbrev S64x256x32x128 : Shape := ⟨4, ![64, 256, 32, 128]⟩
abbrev S1x1x1x128 : Shape := ⟨4, ![1, 1, 1, 128]⟩
abbrev S64x1x32x1 : Shape := ⟨4, ![64, 1, 32, 1]⟩

abbrev nBuf : Space → Nat
  | .hbm => 147
  | .vmem => 0
  | .smem => 0
  | _ => 0

abbrev hbmTy0_0 (i : Nat) : BufTy := match i % 128 with
  | 0 => ⟨S64x256x32x4, .f32⟩
  | 1 => ⟨S32x1, .f32⟩
  | 2 => ⟨S32, .f32⟩
  | 3 => ⟨S2x32, .f32⟩
  | 4 => ⟨S2x32, .f32⟩
  | 5 => ⟨S32x32, .f32⟩
  | 6 => ⟨S128x128, .f32⟩
  | 7 => ⟨S128, .f32⟩
  | 8 => ⟨S128, .f32⟩
  | 9 => ⟨S128, .f32⟩
  | 10 => ⟨S64x32, .i1⟩
  | 11 => ⟨S64x256x32x1, .f32⟩
  | 12 => ⟨S64x256x32x1, .f32⟩
  | 13 => ⟨S64x256x32, .f32⟩
  | 14 => ⟨S64x256x32x1, .f32⟩
  | 15 => ⟨S64x256x32, .f32⟩
  | 16 => ⟨S64x256x32x1, .f32⟩
  | 17 => ⟨S64x256x32, .f32⟩
  | 18 => ⟨S64x256x32x1, .f32⟩
  | 19 => ⟨S64x256x32x1, .f32⟩
  | 20 => ⟨S1x32, .f32⟩
  | 21 => ⟨S64x256x32x32, .f32⟩
  | 22 => ⟨S1x1x1x32, .f32⟩
  | 23 => ⟨S64x256x32x32, .f32⟩
  | 24 => ⟨S64x256x32x32, .f32⟩
  | 25 => ⟨S64x256x32, .i32⟩
  | 26 => ⟨S_, .i32⟩
  | 27 => ⟨S64x256x32, .i32⟩
  | 28 => ⟨S64x256x32, .i1⟩
  | 29 => ⟨S_, .i32⟩
  | 30 => ⟨S64x256x32, .i32⟩
  | 31 => ⟨S64x256x32, .i32⟩
  | 32 => ⟨S64x256x32, .i32⟩
  | 33 => ⟨S64x256x32x1, .i32⟩
  | 34 => ⟨S1, .i32⟩
  | 35 => ⟨S_, .i32⟩
  | 36 => ⟨S64x256x32x1, .i32⟩
  | 37 => ⟨S64x256x32x1, .i1⟩
  | 38 => ⟨S1x1x1x1, .i32⟩
  | 39 => ⟨S64x256x32x1, .i32⟩
  | 40 => ⟨S64x256x32x1, .i1⟩
  | 41 => ⟨S64x256x32x1, .i1⟩
  | 42 => ⟨S_, .i1⟩
  | 43 => ⟨S64x256x32, .i1⟩
  | 44 => ⟨S64x256x32x32, .f32⟩
  | 45 => ⟨S64x256x32x32, .i1⟩
  | 46 => ⟨S_, .f32⟩
  | 47 => ⟨S64x256x32x32, .f32⟩
  | 48 => ⟨S64x256x32x32, .f32⟩
  | 49 => ⟨S64x256x32, .i32⟩
  | 50 => ⟨S_, .i32⟩
  | 51 => ⟨S64x256x32, .i32⟩
  | 52 => ⟨S64x256x32, .i1⟩
  | 53 => ⟨S_, .i32⟩
  | 54 => ⟨S64x256x32, .i32⟩
  | 55 => ⟨S64x256x32, .i32⟩
  | 56 => ⟨S64x256x32, .i32⟩
  | 57 => ⟨S64x256x32x1, .i32⟩
  | 58 => ⟨S1, .i32⟩
  | 59 => ⟨S_, .i32⟩
  | 60 => ⟨S64x256x32x1, .i32⟩
  | 61 => ⟨S64x256x32x1, .i1⟩
  | 62 => ⟨S1x1x1x1, .i32⟩
  | 63 => ⟨S64x256x32x1, .i32⟩
  | 64 => ⟨S64x256x32x1, .i1⟩
  | 65 => ⟨S64x256x32x1, .i1⟩
  | 66 => ⟨S_, .i1⟩
  | 67 => ⟨S64x256x32, .i1⟩
  | 68 => ⟨S64x256x32x32, .f32⟩
  | 69 => ⟨S64x256x32x32, .i1⟩
  | 70 => ⟨S_, .f32⟩
  | 71 => ⟨S64x256x32x32, .f32⟩
  | 72 => ⟨S64x256x32x32, .f32⟩
  | 73 => ⟨S_, .f32⟩
  | 74 => ⟨S64x256x32, .f32⟩
  | 75 => ⟨S64x256x32, .f32⟩
  | 76 => ⟨S64x256x32, .i32⟩
  | 77 => ⟨S_, .i32⟩
  | 78 => ⟨S_, .i32⟩
  | 79 => ⟨S_, .i32⟩
  | 80 => ⟨S64x256x32, .i32⟩
  | 81 => ⟨S64x256x32, .i32⟩
  | 82 => ⟨S_, .i32⟩
  | 83 => ⟨S64x256x32, .i32⟩
  | 84 => ⟨S64x256x32, .i32⟩
  | 85 => ⟨S_, .i32⟩
  | 86 => ⟨S64x256x32, .i32⟩
  | 87 => ⟨S64x256x32, .i1⟩
  | 88 => ⟨S_, .i32⟩
  | 89 => ⟨S64x256x32, .i32⟩
  | 90 => ⟨S64x256x32, .i32⟩
  | 91 => ⟨S64x256x32, .i32⟩
  | 92 => ⟨S64x256x32x1, .i32⟩
  | 93 => ⟨S1, .i32⟩
  | 94 => ⟨S_, .i32⟩
  | 95 => ⟨S64x256x32x1, .i32⟩
  | 96 => ⟨S64x256x32x1, .i1⟩
  | 97 => ⟨S1x1x1x1, .i32⟩
  | 98 => ⟨S64x256x32x1, .i32⟩
  | 99 => ⟨S64x256x32x1, .i1⟩
  | 100 => ⟨S64x256x32x1, .i1⟩
  | 101 => ⟨S_, .i1⟩
  | 102 => ⟨S64x256x32, .i1⟩
  | 103 => ⟨S64x256x32x32, .f32⟩
  | 104 => ⟨S64x256x32x32, .i1⟩
  | 105 => ⟨S_, .f32⟩
  | 106 => ⟨S64x256x32x32, .f32⟩
  | 107 => ⟨S64x256x32x32, .f32⟩
  | 108 => ⟨S64x256x32x128, .f32⟩
  | 109 => ⟨S128x128, .f32⟩
  | 110 => ⟨S64x256x32x128, .f32⟩
  | 111 => ⟨S1x1x1x128, .f32⟩
  | 112 => ⟨S64x256x32x128, .f32⟩
  | 113 => ⟨S64x256x32x128, .f32⟩
  | 114 => ⟨S_, .f32⟩
  | 115 => ⟨S64x256x32, .f32⟩
  | 116 => ⟨S64x256x32x1, .f32⟩
  | 117 => ⟨S_, .f32⟩
  | 118 => ⟨S64x256x32x1, .f32⟩
  | 119 => ⟨S64x256x32x1, .f32⟩
  | 120 => ⟨S64x256x32x128, .f32⟩
  | 121 => ⟨S64x256x32x128, .f32⟩
  | 122 => ⟨S64x256x32x128, .f32⟩
  | 123 => ⟨S_, .f32⟩
  | 124 => ⟨S64x256x32, .f32⟩
  | 125 => ⟨S64x256x32x1, .f32⟩
  | 126 => ⟨S_, .f32⟩
  | 127 => ⟨S64x256x32x1, .f32⟩
  | _ => ⟨S64x256x32x4, .f32⟩

abbrev hbmTy0_1 (i : Nat) : BufTy := match i % 128 with
  | 0 => ⟨S64x256x32x1, .f32⟩
  | 1 => ⟨S64x256x32x128, .f32⟩
  | 2 => ⟨S64x256x32x128, .f32⟩
  | 3 => ⟨S_, .f32⟩
  | 4 => ⟨S64x256x32x1, .f32⟩
  | 5 => ⟨S64x256x32x1, .f32⟩
  | 6 => ⟨S64x256x32x1, .f32⟩
  | 7 => ⟨S64x256x32x128, .f32⟩
  | 8 => ⟨S64x256x32x128, .f32⟩
  | 9 => ⟨S1x1x1x128, .f32⟩
  | 10 => ⟨S64x256x32x128, .f32⟩
  | 11 => ⟨S64x256x32x128, .f32⟩
  | 12 => ⟨S1x1x1x128, .f32⟩
  | 13 => ⟨S64x256x32x128, .f32⟩
  | 14 => ⟨S64x256x32x128, .f32⟩
  | 15 => ⟨S64x1x32x1, .i1⟩
  | 16 => ⟨S64x1x32x1, .f32⟩
  | 17 => ⟨S64x256x32x128, .f32⟩
  | 18 => ⟨S64x256x32x128, .f32⟩
  | _ => ⟨S64x256x32x4, .f32⟩

abbrev hbmTy (i : Nat) : BufTy := match i / 128 with
  | 0 => hbmTy0_0 i
  | 1 => hbmTy0_1 i
  | _ => ⟨S64x256x32x4, .f32⟩

abbrev bufTy : (tb : Table) → Fin (tcTables nBuf tb) → BufTy
  | .hbm, ⟨i, _⟩ => hbmTy i
  | _, _ => ⟨S64x256x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v15 : Ref sig .tc := ⟨.hbm, 48, rfl⟩
abbrev main_v16 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v17 : Ref sig .tc := ⟨.hbm, 72, rfl⟩
abbrev main_cst : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_c : Ref sig .tc := ⟨.hbm, 77, rfl⟩
abbrev main_c_0 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v21 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_1 : Ref sig .tc := ⟨.hbm, 114, rfl⟩
abbrev main_v29 : Ref sig .tc := ⟨.hbm, 115, rfl⟩
abbrev main_v30 : Ref sig .tc := ⟨.hbm, 116, rfl⟩
abbrev main_cst_2 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_cst_3 : Ref sig .tc := ⟨.hbm, 123, rfl⟩
abbrev main_v36 : Ref sig .tc := ⟨.hbm, 124, rfl⟩
abbrev main_v37 : Ref sig .tc := ⟨.hbm, 125, rfl⟩
abbrev main_cst_4 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_cst_5 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩

abbrev nD : Nat := 1
abbrev τ : Topo := Topo.v7x

variable {F : FTy → Type} [FloatOps F]
-- ==== Proof.KRun.lean ====
/- The run of the idealized kernel with every array: each execution ends with every buffer that outlives the program at
   the contents of the last boundary, so the result array is what the last host operation computes from what the second
   launch left. -/
module

public import proofs.«01_k».proof.Proof.Gen.KernelIdeal.Frame
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution of the kernel terminates, and each buffer that no launch scopes ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hbufs, Hreg, Howed⟩
      isplitl [Hbufs Hreg]
      · isplitl [Hbufs]
        · iexact Hbufs
        · iexact Hreg
      · iexact Howed⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]; · iexact Hbufs
      isplitl [Hreg]; · iexists _; iexact Hreg
      iexists ∅; iexact Howed)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun _ h _ => h)

/-- The kernel's run: the result array and, unchanged, the argument arrays. -/
theorem run : θ_run defs (onTc (τ := τ) (main (F := F))) ⟨m, fun _ => 0, ρ⟩ fun r => ∀ c : Dev nD,
    r.2.mem ((c.tc : Thread nD τ).loc main_v14) = W4 m ρ c (Proc.devRef .tc main_v14)
    ∧ ∀ a ∈ argRefs, r.2.mem ((c.tc : Thread nD τ).loc a) = m ((c.tc : Thread nD τ).loc a) :=
  (θ_run defs _ _).mono (fun _ h c =>
    ⟨h c _ (mem_uc main_v14 (by decide)), fun a ha =>
      (h c _ (mem_uc a ((by decide : ∀ a ∈ argRefs, ¬ (Proc.devRef .tc a : DevRef τ sig).isScoped) a ha))).trans
        (W4_args m ρ c a ha)⟩) (run_all m ρ)

end Cert.KernelIdeal.Value

end
-- ==== Proof.RefTerm.lean ====
/- The reference's result term cut into its mathematical layers: the three feature columns, the row lookups, the
   concatenated feature vector, the projection, and the layer norm. Each layer is a small definition over variables. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe

variable {F : FTy → Type} [FloatOps F]

/-- Feature 1 of every token (the observation flag, also a factor of the value). -/
def col1 (x : FVec F S64x256x32x4 .f32) : FVec F S64x256x32 .f32 :=
  shapeCast _ (extractStridedSlice S64x256x32x1 ![0, 0, 0, 1] x slices_S64x256x32x4_S64x256x32x1_0_0_0_1)
    shapeCasts_S64x256x32x1_S64x256x32

/-- Feature 2 of every token (the mask flag). -/
def col2 (x : FVec F S64x256x32x4 .f32) : FVec F S64x256x32 .f32 :=
  shapeCast _ (extractStridedSlice S64x256x32x1 ![0, 0, 0, 2] x slices_S64x256x32x4_S64x256x32x1_0_0_0_2)
    shapeCasts_S64x256x32x1_S64x256x32

/-- Feature 3 of every token (the relative position). -/
def col3 (x : FVec F S64x256x32x4 .f32) : FVec F S64x256x32 .f32 :=
  shapeCast _ (extractStridedSlice S64x256x32x1 ![0, 0, 0, 3] x slices_S64x256x32x4_S64x256x32x1_0_0_0_3)
    shapeCasts_S64x256x32x1_S64x256x32

/-- The position row: 31 times feature 3, cast to an integer and clipped into 0..31. -/
def posIx (f : FVec F S64x256x32 .f32) : IVec S64x256x32 32 :=
  minsi (broadcastInDim S64x256x32 ![] bcast_S_S64x256x32 (id (constantI S_ 32 31#32)))
    (maxsi (broadcastInDim S64x256x32 ![] bcast_S_S64x256x32 (id (constantI S_ 32 0#32)))
      (fptosi 32 (mulf f (broadcastInDim S64x256x32 ![] bcast_S_S64x256x32 (constant S_ .f32 0x41F80000#32)))))

/-- A lookup's row index: a negative index counts from the table's end. -/
def wrapIx (n : BitVec 32) (i : IVec S64x256x32 32) : IVec S64x256x32x1 32 :=
  broadcastInDim S64x256x32x1 ![0, 1, 2] bcast_S64x256x32_S64x256x32x1_0_1_2
    (select (cmpi .slt i (broadcastInDim S64x256x32 ![] bcast_S_S64x256x32 (constantI S_ 32 0#32)))
      (addi i (broadcastInDim S64x256x32 ![] bcast_S_S64x256x32 (constantI S_ 32 n))) i)

/-- Whether the row index lies in the table. -/
def inTable (hi : BitVec 32) (w : IVec S64x256x32x1 32) : IVec S64x256x32 1 :=
  Host.reduce IntOp.andi
    (andi (cmpi .sge w (broadcastInDim S64x256x32x1 ![] bcast_S_S64x256x32x1 (constantI S_ 32 0#32)))
      (cmpi .sle w (broadcastInDim S64x256x32x1 ![0, 1, 2, 3] bcast_S1x1x1x1_S64x256x32x1_0_1_2_3
        (broadcastInDim S1x1x1x1 ![3] bcast_S1_S1x1x1x1_3 (constantI S1 32 hi)))))
    (constantI S_ 1 1#1) reducesTo_S64x256x32x1_S64x256x32_d3 h_S_

/-- A looked-up row where the index is in the table, the not-a-number pattern elsewhere. -/
def guardRow (ok : IVec S64x256x32 1) (row : FVec F S64x256x32x32 .f32) : FVec F S64x256x32x32 .f32 :=
  select (broadcastInDim S64x256x32x32 ![0, 1, 2] bcast_S64x256x32_S64x256x32x32_0_1_2 ok) row
    (broadcastInDim S64x256x32x32 ![] bcast_S_S64x256x32x32 (constant S_ .f32 0x7FC00000#32))

/-- Lookup in a table of two rows. -/
def lookup2 (t : FVec F S2x32 .f32) (i : IVec S64x256x32 32) : FVec F S64x256x32x32 .f32 :=
  guardRow (inTable 1#32 (wrapIx 2#32 i))
    (Host.gather gather_S2x32_S64x256x32x1_S64x256x32x32_3_0_n_n_0_3_132 t (wrapIx 2#32 i))

/-- Lookup in the table of 32 rows. -/
def lookup32 (t : FVec F S32x32 .f32) (i : IVec S64x256x32 32) : FVec F S64x256x32x32 .f32 :=
  guardRow (inTable 31#32 (wrapIx 32#32 i))
    (Host.gather gather_S32x32_S64x256x32x1_S64x256x32x32_3_0_n_n_0_3_132 t (wrapIx 32#32 i))

/-- The value embedding: feature 0 times feature 1, times the value weights, plus the value bias. -/
def valueEmb (x : FVec F S64x256x32x4 .f32) (wv : FVec F S32x1 .f32) (bv : FVec F S32 .f32) : FVec F S64x256x32x32 .f32 :=
  addf (Host.dotGeneral dot_S64x256x32x1_S1x32_S64x256x32x32_3_0_012_1_n_n none
      (mulf (extractStridedSlice S64x256x32x1 ![0, 0, 0, 0] x slices_S64x256x32x4_S64x256x32x1_0_0_0_0)
        (broadcastInDim S64x256x32x1 ![0, 1, 2] bcast_S64x256x32_S64x256x32x1_0_1_2 (col1 x)))
      (transpose S1x32 [1, 0] wv transposes_S32x1_S1x32_1_0))
    (broadcastInDim S64x256x32x32 ![0, 1, 2, 3] bcast_S1x1x1x32_S64x256x32x32_0_1_2_3
      (broadcastInDim S1x1x1x32 ![3] bcast_S32_S1x1x1x32_3 bv))

/-- The four embeddings side by side. -/
def features (a b d e : FVec F S64x256x32x32 .f32) : FVec F S64x256x32x128 .f32 :=
  concatenate S64x256x32x128 3 [⟨S64x256x32x32, a⟩, ⟨S64x256x32x32, b⟩, ⟨S64x256x32x32, d⟩, ⟨S64x256x32x32, e⟩]
    concatenates_S64x256x32x32_S64x256x32x32_S64x256x32x32_S64x256x32x32_S64x256x32x128_d3

/-- A vector of 128 along the last axis. -/
def lastAxis (v : FVec F S128 .f32) : FVec F S64x256x32x128 .f32 :=
  broadcastInDim S64x256x32x128 ![0, 1, 2, 3] bcast_S1x1x1x128_S64x256x32x128_0_1_2_3
    (broadcastInDim S1x1x1x128 ![3] bcast_S128_S1x1x1x128_3 v)

/-- The projection of the features. -/
def proj (u : FVec F S64x256x32x128 .f32) (wo : FVec F S128x128 .f32) (bo : FVec F S128 .f32) : FVec F S64x256x32x128 .f32 :=
  addf (Host.dotGeneral dot_S64x256x32x128_S128x128_S64x256x32x128_3_0_012_1_n_n none u
      (transpose S128x128 [1, 0] wo transposes_S128x128_S128x128_1_0)) (lastAxis bo)

/-- The mean over the last axis. -/
def meanLast (e : FVec F S64x256x32x128 .f32) : FVec F S64x256x32x1 .f32 :=
  Host.divf (broadcastInDim S64x256x32x1 ![0, 1, 2] bcast_S64x256x32_S64x256x32x1_0_1_2
      (Host.reduceAdd e (constant S_ .f32 0x00000000#32) reducesTo_S64x256x32x128_S64x256x32_d3 h_S_))
    (broadcastInDim S64x256x32x1 ![] bcast_S_S64x256x32x1 (constant S_ .f32 0x43000000#32))

/-- One number per token, repeated along the last axis. -/
def repeatLast (s : FVec F S64x256x32x1 .f32) : FVec F S64x256x32x128 .f32 :=
  broadcastInDim S64x256x32x128 ![0, 1, 2, 3] bcast_S64x256x32x1_S64x256x32x128_0_1_2_3 s

/-- The deviation from the mean. -/
def dev (e : FVec F S64x256x32x128 .f32) : FVec F S64x256x32x128 .f32 :=
  subf e (repeatLast (meanLast e))

/-- The square root of the variance plus epsilon. -/
def stddev (d : FVec F S64x256x32x128 .f32) : FVec F S64x256x32x1 .f32 :=
  Host.sqrt (addf (meanLast (mulf d d)) (broadcastInDim S64x256x32x1 ![] bcast_S_S64x256x32x1 (constant S_ .f32 0x3727C5AC#32)))

/-- The layer norm's output times the column mask. -/
def normed (d : FVec F S64x256x32x128 .f32) (g b : FVec F S128 .f32) (cm : IVec S64x32 1) : FVec F S64x256x32x128 .f32 :=
  mulf (addf (mulf (Host.divf d (repeatLast (stddev d))) (lastAxis g)) (lastAxis b))
    (broadcastInDim S64x256x32x128 ![0, 1, 2, 3] bcast_S64x1x32x1_S64x256x32x128_0_1_2_3
      (uitofp .f32 (broadcastInDim S64x1x32x1 ![0, 2] bcast_S64x32_S64x1x32x1_0_2 cm)))

/-- The feature vectors of every token. -/
def featuresOf (x : FVec F S64x256x32x4 .f32) (wv : FVec F S32x1 .f32) (bv : FVec F S32 .f32)
    (obs mk : FVec F S2x32 .f32) (ps : FVec F S32x32 .f32) : FVec F S64x256x32x128 .f32 :=
  features (valueEmb x wv bv) (lookup2 obs (fptosi 32 (col1 x))) (lookup2 mk (fptosi 32 (col2 x)))
    (lookup32 ps (posIx (col3 x)))

/-- The whole reference. -/
def refOut (x : FVec F S64x256x32x4 .f32) (wv : FVec F S32x1 .f32) (bv : FVec F S32 .f32)
    (obs mk : FVec F S2x32 .f32) (ps : FVec F S32x32 .f32) (wo : FVec F S128x128 .f32)
    (bo g b : FVec F S128 .f32) (cm : IVec S64x32 1) : FVec F S64x256x32x128 .f32 :=
  normed (dev (proj (featuresOf x wv bv obs mk ps) wo bo)) g b cm

/-- The reference's run leaves exactly this. -/
theorem res_eq (m : (ℓ : Loc nD τ sig) → Buf (Elt F) ℓ) (c : Dev nD) :
    res_main_v56 m c = refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) := by
  unfold res_main_v56
  rfl

end Cert.ReferenceIdeal.Value

end
-- ==== Proof.RefRows.lean ====
/- The reference's layers read at an index: a row lookup whose index is in the table, the value embedding, the projection. -/
module

public import proofs.«01_k».proof.Proof.RefTerm
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe

/-- A gather of whole rows out of two, at an index: the row the index word names, held inside the table. -/
theorem gather2_at (t : FVec Ideal S2x32 .f32) (w : IVec S64x256x32x1 32) (a : Fin 64) (b : Fin 256) (c k : Fin 32) :
    Host.gather gather_S2x32_S64x256x32x1_S64x256x32x32_3_0_n_n_0_3_132 t w (ix4 a b c k : S64x256x32x32.Idx)
      = t (ix2 ⟨min (w (ix4 a b c 0 : S64x256x32x1.Idx)).toInt.toNat 1, by omega⟩ k) := by
  unfold Host.gather
  congr 1
  funext ax
  refine Fin.ext ?_
  match ax with
  | ⟨0, _⟩ =>
    show min (w _).toInt.toNat 1 = min (w _).toInt.toNat 1
    refine congrArg (fun z => min (w z).toInt.toNat 1) ?_
    funext e
    refine Fin.ext ?_
    match e with
    | ⟨0, _⟩ => rfl
    | ⟨1, _⟩ => rfl
    | ⟨2, _⟩ => rfl
    | ⟨3, _⟩ => rfl
  | ⟨1, _⟩ =>
    show 0 + 0 + k.val = k.val
    omega

/-- The same of the table of 32 rows. -/
theorem gather32_at (t : FVec Ideal S32x32 .f32) (w : IVec S64x256x32x1 32) (a : Fin 64) (b : Fin 256) (c k : Fin 32) :
    Host.gather gather_S32x32_S64x256x32x1_S64x256x32x32_3_0_n_n_0_3_132 t w (ix4 a b c k : S64x256x32x32.Idx)
      = t (ix2 ⟨min (w (ix4 a b c 0 : S64x256x32x1.Idx)).toInt.toNat 31, by omega⟩ k) := by
  unfold Host.gather
  congr 1
  funext ax
  refine Fin.ext ?_
  match ax with
  | ⟨0, _⟩ =>
    show min (w _).toInt.toNat 31 = min (w _).toInt.toNat 31
    refine congrArg (fun z => min (w z).toInt.toNat 31) ?_
    funext e
    refine Fin.ext ?_
    match e with
    | ⟨0, _⟩ => rfl
    | ⟨1, _⟩ => rfl
    | ⟨2, _⟩ => rfl
    | ⟨3, _⟩ => rfl
  | ⟨1, _⟩ =>
    show 0 + 0 + k.val = k.val
    omega

/-- Words of row numbers are not negative. -/
theorem row_word_not_neg (r : Fin 32) : IntOp.cmpi .slt (BitVec.ofNat 32 r) 0#32 = 0#1 := by
  revert r; decide

/-- A row number below the bound passes the range test. -/
theorem row_word_in_range (hi r : Fin 32) (h : r ≤ hi) :
    IntOp.andi (IntOp.cmpi .sge (BitVec.ofNat 32 r) 0#32) (IntOp.cmpi .sle (BitVec.ofNat 32 r) (BitVec.ofNat 32 hi)) = 1#1 := by
  revert hi r; decide

/-- A row number's word reads back as the number. -/
theorem row_word_toNat (r : Fin 32) : (BitVec.ofNat 32 r).toInt.toNat = r := by
  revert r; decide

/-- The lookup index of a word that names one of the table's rows is that word. -/
theorem wrapIx_at (n : BitVec 32) (i : IVec S64x256x32 32) (a : Fin 64) (b : Fin 256) (c r : Fin 32) (e : Fin 1)
    (h : i (ix3 a b c) = BitVec.ofNat 32 r) : wrapIx n i (ix4 a b c e) = BitVec.ofNat 32 r := by
  pointwise [wrapIx, h, row_word_not_neg]

/-- The range test of such a word. -/
theorem inTable_at (w : IVec S64x256x32x1 32) (a : Fin 64) (b : Fin 256) (c hi r : Fin 32) (hr : r ≤ hi)
    (h : ∀ e, w (ix4 a b c e) = BitVec.ofNat 32 r) : inTable (BitVec.ofNat 32 hi) w (ix3 a b c) = 1#1 := by
  pointwise [inTable, h, row_word_in_range hi r hr]
  rfl

/-- A looked-up row inside the table is kept. -/
theorem guardRow_at (ok : IVec S64x256x32 1) (row : FVec Ideal S64x256x32x32 .f32) (a : Fin 64) (b : Fin 256) (c k : Fin 32)
    (h : ok (ix3 a b c) = 1#1) : guardRow ok row (ix4 a b c k) = row (ix4 a b c k) := by
  pointwise [guardRow, h]

/-- A lookup at the word of row `r` of two reads that row. -/
theorem lookup2_at (t : FVec Ideal S2x32 .f32) (i : IVec S64x256x32 32) (a : Fin 64) (b : Fin 256) (c k : Fin 32) (r : Fin 2)
    (h : i (ix3 a b c) = BitVec.ofNat 32 r) : lookup2 t i (ix4 a b c k) = t (ix2 r k) := by
  have hw := fun e => wrapIx_at 2#32 i a b c ⟨r.val, by omega⟩ e h
  unfold lookup2
  rw [guardRow_at _ _ a b c k (show inTable 1#32 _ _ = _ from inTable_at _ a b c 1 ⟨r.val, by omega⟩ (by rw [Fin.le_def]; show r.val ≤ 1; omega) hw), gather2_at]
  congr 2
  refine Fin.ext ?_
  show min (wrapIx 2#32 i (ix4 a b c 0)).toInt.toNat 1 = r.val
  rw [hw 0, row_word_toNat]
  show min r.val 1 = r.val
  omega

/-- A lookup at the word of row `r` of 32 reads that row. -/
theorem lookup32_at (t : FVec Ideal S32x32 .f32) (i : IVec S64x256x32 32) (a : Fin 64) (b : Fin 256) (c k r : Fin 32)
    (h : i (ix3 a b c) = BitVec.ofNat 32 r) : lookup32 t i (ix4 a b c k) = t (ix2 r k) := by
  have hw := fun e => wrapIx_at 32#32 i a b c r e h
  unfold lookup32
  rw [guardRow_at _ _ a b c k (show inTable 31#32 _ _ = _ from inTable_at _ a b c 31 r (by rw [Fin.le_def]; show r.val ≤ 31; omega) hw), gather32_at]
  congr 2
  refine Fin.ext ?_
  show min (wrapIx 32#32 i (ix4 a b c 0)).toInt.toNat 31 = r.val
  rw [hw 0, row_word_toNat]
  omega

/-- The value embedding at an index. -/
theorem valueEmb_at (x : FVec Ideal S64x256x32x4 .f32) (wv : FVec Ideal S32x1 .f32) (bv : FVec Ideal S32 .f32)
    (a : Fin 64) (b : Fin 256) (c k : Fin 32) :
    valueEmb x wv bv (ix4 a b c k) = x (ix4 a b c 0) * x (ix4 a b c 1) * wv (ix2 k 0) + bv (ix1 k) := by
  pointwise [valueEmb, col1]
  rw [Fin.sum_univ_one]

/-- The projection at an index: one sum per embedding, and the bias. -/
theorem proj_at (p q d e : FVec Ideal S64x256x32x32 .f32) (wo : FVec Ideal S128x128 .f32) (bo : FVec Ideal S128 .f32)
    (a : Fin 64) (b : Fin 256) (c : Fin 32) (j : Fin 128) :
    proj (features p q d e) wo bo (ix4 a b c j)
      = (∑ k : Fin 32, p (ix4 a b c k) * wo (ix2 j ⟨k, by omega⟩)
          + (∑ k : Fin 32, q (ix4 a b c k) * wo (ix2 j ⟨32 + k, by omega⟩)
            + (∑ k : Fin 32, d (ix4 a b c k) * wo (ix2 j ⟨64 + k, by omega⟩)
              + ∑ k : Fin 32, e (ix4 a b c k) * wo (ix2 j ⟨96 + k, by omega⟩)))) + bo (ix1 j) := by
  pointwise [proj, features, lastAxis, sumSplitAll]
  simp only [← Nat.add_assoc, Nat.reduceAdd]

/-- Feature 1 at an index. -/
theorem col1_at (x : FVec Ideal S64x256x32x4 .f32) (a : Fin 64) (b : Fin 256) (c : Fin 32) :
    col1 x (ix3 a b c) = x (ix4 a b c 1) := by
  pointwise [col1]

/-- Feature 2 at an index. -/
theorem col2_at (x : FVec Ideal S64x256x32x4 .f32) (a : Fin 64) (b : Fin 256) (c : Fin 32) :
    col2 x (ix3 a b c) = x (ix4 a b c 2) := by
  pointwise [col2]

/-- Feature 3 at an index. -/
theorem col3_at (x : FVec Ideal S64x256x32x4 .f32) (a : Fin 64) (b : Fin 256) (c : Fin 32) :
    col3 x (ix3 a b c) = x (ix4 a b c 3) := by
  pointwise [col3]

/-- The position row at an index. -/
theorem posIx_at (f : FVec Ideal S64x256x32 .f32) (a : Fin 64) (b : Fin 256) (c : Fin 32) :
    posIx f (ix3 a b c) = IntOp.minsi 31#32 (IntOp.maxsi 0#32
      (FloatOps.fptosi (F := Ideal) 32 (f (ix3 a b c) * Ideal.ofBits FTy.f32 0x41F80000#32 : EReal))) := by
  pointwise [posIx]
  rfl

/-- The deviation at an index. -/
theorem dev_at (e : FVec Ideal S64x256x32x128 .f32) (a : Fin 64) (b : Fin 256) (c : Fin 32) (j : Fin 128) :
    dev e (ix4 a b c j) = e (ix4 a b c j) - Ideal.div (∑ k : Fin 128, e (ix4 a b c k)) (Ideal.ofBits .f32 0x43000000#32) := by
  pointwise [dev, repeatLast, meanLast]

/-- The layer norm's output at an index. -/
theorem normed_at (d : FVec Ideal S64x256x32x128 .f32) (g bt : FVec Ideal S128 .f32) (cm : IVec S64x32 1)
    (a : Fin 64) (b : Fin 256) (c : Fin 32) (j : Fin 128) :
    normed d g bt cm (ix4 a b c j)
      = (Ideal.div (d (ix4 a b c j)) (Ideal.sqrt (Ideal.div (∑ k : Fin 128, d (ix4 a b c k) * d (ix4 a b c k))
            (Ideal.ofBits .f32 0x43000000#32) + Ideal.ofBits .f32 0x3727C5AC#32)) * g (ix1 j) + bt (ix1 j))
          * (FloatOps.uitofp (F := Ideal) .f32 (cm (ix2 a c)) : EReal) := by
  pointwise [normed, repeatLast, meanLast, stddev, lastAxis]

end Cert.ReferenceIdeal.Value

end
-- ==== Proof.Maths.lean ====
/- The real arithmetic behind the kernel: an embedding's layer norm is a weighted sum of 36 folded rows, and its variance
   a quadratic form in them. Nothing here speaks of programs. -/
module

public import Mathlib.Analysis.SpecialFunctions.Pow.Real
public import Mathlib.Tactic.FieldSimp
public import Mathlib.Tactic.LinearCombination
public import Mathlib.Tactic.Positivity
public import Mathlib.Algebra.BigOperators.Field
public import Mathlib.Tactic.FinCases

@[expose] public section

noncomputable section

namespace Cert.Maths

/-- The weights and tables as real numbers. -/
structure Par where
  /-- value weights -/
  wv : Fin 32 → ℝ
  /-- value bias -/
  bv : Fin 32 → ℝ
  /-- observation table -/
  obs : Fin 2 → Fin 32 → ℝ
  /-- mask table -/
  msk : Fin 2 → Fin 32 → ℝ
  /-- position table -/
  ps : Fin 32 → Fin 32 → ℝ
  /-- projection, output row first -/
  wo : Fin 128 → Fin 128 → ℝ
  /-- projection bias -/
  bo : Fin 128 → ℝ
  /-- norm scale -/
  g : Fin 128 → ℝ

/-- An embedding of 32 against the part of a projection row that starts at `b`. -/
def proj (P : Par) (b : ℕ) (hb : b + 32 ≤ 128) (e : Fin 32 → ℝ) (j : Fin 128) : ℝ :=
  ∑ k : Fin 32, e k * P.wo j ⟨b + k, by omega⟩

/-- The mean of 128 numbers. -/
def mean (x : Fin 128 → ℝ) : ℝ := (∑ j, x j) / 128

/-- Centred and scaled. -/
def cen (g x : Fin 128 → ℝ) (j : Fin 128) : ℝ := (x j - mean x) * g j

/-- The projected row of the value weights. -/
def rowV (P : Par) : Fin 128 → ℝ := proj P 0 (by omega) P.wv
/-- The projected row that every token has: biases and the first rows of the two flag tables. -/
def rowC (P : Par) (j : Fin 128) : ℝ :=
  P.bo j + proj P 0 (by omega) P.bv j + proj P 32 (by omega) (P.obs 0) j + proj P 64 (by omega) (P.msk 0) j
/-- What the observation flag changes. -/
def rowO (P : Par) (j : Fin 128) : ℝ := proj P 32 (by omega) (P.obs 1) j - proj P 32 (by omega) (P.obs 0) j
/-- What the mask flag changes. -/
def rowM (P : Par) (j : Fin 128) : ℝ := proj P 64 (by omega) (P.msk 1) j - proj P 64 (by omega) (P.msk 0) j
/-- The projected row of position `r`. -/
def rowP (P : Par) (r : Fin 32) : Fin 128 → ℝ := proj P 96 (by omega) (P.ps r)

/-- The folded table of 40 rows. -/
def tab (P : Par) (k : Fin 40) (j : Fin 128) : ℝ :=
  if h : k.val < 32 then cen P.g (rowP P ⟨k, h⟩) j
  else if k.val = 32 then cen P.g (rowV P) j
  else if k.val = 33 then cen P.g (rowC P) j
  else if k.val = 34 then cen P.g (rowO P) j
  else if k.val = 35 then cen P.g (rowM P) j
  else 0

/-- The inner product of two table rows with the scale divided out. -/
def gram (g : Fin 128 → ℝ) (T : Fin 40 → Fin 128 → ℝ) (a b : Fin 40) : ℝ :=
  ∑ j, T a j * (1 / (g j * g j * 128)) * T b j

/-- The variance coefficients of position `r`. -/
def vt (G : Fin 40 → Fin 40 → ℝ) (eps : ℝ) (r : Fin 32) (c : Fin 8) : ℝ :=
  if c.val = 0 then G ⟨r, by omega⟩ ⟨r, by omega⟩ + 2 * G ⟨r, by omega⟩ 33 + (G 33 33 + eps)
  else if c.val = 1 then 2 * G ⟨r, by omega⟩ 32 + 2 * G 32 33
  else if c.val = 2 then G 32 32
  else if c.val = 3 then 2 * G ⟨r, by omega⟩ 34 + 2 * G 33 34 + G 34 34
  else if c.val = 4 then 2 * G ⟨r, by omega⟩ 35 + 2 * G 33 35 + G 35 35
  else if c.val = 5 then 2 * G 32 34
  else if c.val = 6 then 2 * G 32 35
  else 2 * G 34 35

/-- The variance plus epsilon from the coefficients. -/
def ssq (p : Fin 8 → ℝ) (s o m : ℝ) : ℝ :=
  p 0 + p 1 * s + p 2 * (s * s) + p 3 * o + p 4 * m + p 5 * (s * o) + p 6 * (s * m) + p 7 * (o * m)

/-- The weight of each table row: the position's one, then value, constant and the flags. -/
def coef (r : Fin 32) (s o m : ℝ) (k : Fin 40) : ℝ :=
  if k.val = 35 then m else if k.val = 34 then o else if k.val = 33 then 1 else if k.val = 32 then s
  else if k.val = r.val then 1 else 0

/-- The kernel's output for one token. -/
def kout (T : Fin 40 → Fin 128 → ℝ) (p : Fin 8 → ℝ) (r : Fin 32) (s o m : ℝ) (j : Fin 128) : ℝ :=
  ∑ k : Fin 40, coef r s o m k * (Real.sqrt (ssq p s o m))⁻¹ * T k j

/-- The token's projected embedding. -/
def emb (P : Par) (s : ℝ) (o m : Fin 2) (r : Fin 32) (j : Fin 128) : ℝ :=
  ∑ k : Fin 32, (s * P.wv k + P.bv k) * P.wo j ⟨k, by omega⟩
    + (∑ k : Fin 32, P.obs o k * P.wo j ⟨32 + k, by omega⟩
      + (∑ k : Fin 32, P.msk m k * P.wo j ⟨64 + k, by omega⟩
        + ∑ k : Fin 32, P.ps r k * P.wo j ⟨96 + k, by omega⟩)) + P.bo j

/-- The variance plus epsilon of a vector. -/
def varEps (x : Fin 128 → ℝ) (eps : ℝ) : ℝ := (∑ k : Fin 128, (x k - mean x) * (x k - mean x)) / 128 + eps

/-- The layer norm of a vector, without shift. -/
def lnorm (x g : Fin 128 → ℝ) (eps : ℝ) (j : Fin 128) : ℝ := (x j - mean x) / Real.sqrt (varEps x eps) * g j

/-- A sum weighted by the rows' weights has five terms. -/
theorem coef_sum (r : Fin 32) (s o m : ℝ) (f : Fin 40 → ℝ) :
    ∑ k : Fin 40, coef r s o m k * f k = f ⟨r, by omega⟩ + s * f 32 + f 33 + o * f 34 + m * f 35 := by
  have h : ∀ k : Fin 40, coef r s o m k * f k
      = (if k = (⟨r, by omega⟩ : Fin 40) then f k else 0) + (if k = 32 then s * f k else 0) + (if k = 33 then f k else 0)
        + (if k = 34 then o * f k else 0) + (if k = 35 then m * f k else 0) := by
    intro k
    have hr := r.isLt
    unfold coef
    simp only [Fin.ext_iff, Fin.isValue, show ((32 : Fin 40) : ℕ) = 32 from rfl, show ((33 : Fin 40) : ℕ) = 33 from rfl,
      show ((34 : Fin 40) : ℕ) = 34 from rfl, show ((35 : Fin 40) : ℕ) = 35 from rfl]
    split_ifs <;> first | omega | simp
  simp only [h, Finset.sum_add_distrib, Finset.sum_ite_eq', Finset.mem_univ, if_true]

/-- The variance coefficients summed over the position's weights are the position's. -/
theorem coef_sum_vt (r : Fin 32) (s o m : ℝ) (V : Fin 32 → ℝ) :
    ∑ k : Fin 32, V k * coef r s o m ⟨k, by omega⟩ = V r := by
  have h : ∀ k : Fin 32, V k * coef r s o m ⟨k, by omega⟩ = if k = r then V k else 0 := by
    intro k
    have hk := k.isLt
    unfold coef
    simp only [Fin.ext_iff]
    split_ifs <;> first | omega | simp
  simp only [h, Finset.sum_ite_eq', Finset.mem_univ, if_true]

/-- Centring is linear: the token's embedding splits into the folded rows. -/
theorem cen_emb (P : Par) (s : ℝ) (o m : Fin 2) (r : Fin 32) (j : Fin 128) :
    cen P.g (emb P s o m r) j = cen P.g (rowP P r) j + s * cen P.g (rowV P) j + cen P.g (rowC P) j
      + (o.val : ℝ) * cen P.g (rowO P) j + (m.val : ℝ) * cen P.g (rowM P) j := by
  have he : ∀ j, emb P s o m r j = rowP P r j + s * rowV P j + rowC P j + (o.val : ℝ) * rowO P j + (m.val : ℝ) * rowM P j := by
    intro j
    have hv : ∑ k : Fin 32, (s * P.wv k + P.bv k) * P.wo j ⟨k, by omega⟩ = s * rowV P j + proj P 0 (by omega) P.bv j := by
      unfold rowV proj
      rw [Finset.mul_sum, ← Finset.sum_add_distrib]
      refine Finset.sum_congr rfl fun k _ => ?_
      simp only [Nat.zero_add]
      ring
    have ho : proj P 32 (by omega) (P.obs o) j = proj P 32 (by omega) (P.obs 0) j + (o.val : ℝ) * rowO P j := by
      unfold rowO
      fin_cases o <;> simp
    have hm : proj P 64 (by omega) (P.msk m) j = proj P 64 (by omega) (P.msk 0) j + (m.val : ℝ) * rowM P j := by
      unfold rowM
      fin_cases m <;> simp
    unfold emb
    rw [hv]
    change _ + (proj P 32 (by omega) (P.obs o) j + (proj P 64 (by omega) (P.msk m) j + rowP P r j)) + _ = _
    rw [ho, hm]
    unfold rowC
    ring
  have hm : mean (emb P s o m r) = mean (rowP P r) + s * mean (rowV P) + mean (rowC P) + (o.val : ℝ) * mean (rowO P)
      + (m.val : ℝ) * mean (rowM P) := by
    unfold mean
    simp only [he, Finset.sum_add_distrib, ← Finset.mul_sum]
    ring
  unfold cen
  rw [hm, he]
  ring

/-- The weighted sum of the table rows is the centred embedding. -/
theorem coef_tab (P : Par) (s : ℝ) (o m : Fin 2) (r : Fin 32) (j : Fin 128) :
    ∑ k : Fin 40, coef r s o.val m.val k * tab P k j = cen P.g (emb P s o m r) j := by
  rw [coef_sum, cen_emb]
  have h0 : tab P ⟨r, by omega⟩ j = cen P.g (rowP P r) j := by
    unfold tab; rw [dif_pos (show (⟨r.val, _⟩ : Fin 40).val < 32 from r.isLt)]
  have h1 : tab P 32 j = cen P.g (rowV P) j := rfl
  have h2 : tab P 33 j = cen P.g (rowC P) j := rfl
  have h3 : tab P 34 j = cen P.g (rowO P) j := rfl
  have h4 : tab P 35 j = cen P.g (rowM P) j := rfl
  rw [h0, h1, h2, h3, h4]

/-- The gram matrix is symmetric. -/
theorem gram_comm (g : Fin 128 → ℝ) (T : Fin 40 → Fin 128 → ℝ) (a b : Fin 40) : gram g T a b = gram g T b a := by
  unfold gram
  exact Finset.sum_congr rfl fun j _ => by ring

/-- The quadratic form of the coefficients is the mean square of the centred embedding, plus epsilon. -/
theorem ssq_eq (P : Par) (hg : ∀ j, P.g j ≠ 0) (eps s : ℝ) (o m : Fin 2) (r : Fin 32) :
    ssq (vt (gram P.g (tab P)) eps r) s o.val m.val = varEps (emb P s o m r) eps := by
  have ho : (o.val : ℝ) * (o.val : ℝ) = o.val := by fin_cases o <;> simp
  have hm : (m.val : ℝ) * (m.val : ℝ) = m.val := by fin_cases m <;> simp
  generalize hO : (o.val : ℝ) = O at ho
  generalize hM : (m.val : ℝ) = M at hm
  have hd : ∀ j, emb P s o m r j - mean (emb P s o m r)
      = (tab P ⟨r, by omega⟩ j + s * tab P 32 j + tab P 33 j + O * tab P 34 j + M * tab P 35 j) / P.g j := by
    intro j
    rw [eq_div_iff (hg j)]
    have := coef_tab P s o m r j
    rw [coef_sum, hO, hM] at this
    exact this.symm
  have e0 : ssq (vt (gram P.g (tab P)) eps r) s O M
      = (gram P.g (tab P) ⟨r, by omega⟩ ⟨r, by omega⟩ + 2 * gram P.g (tab P) ⟨r, by omega⟩ 33 + (gram P.g (tab P) 33 33 + eps))
        + (2 * gram P.g (tab P) ⟨r, by omega⟩ 32 + 2 * gram P.g (tab P) 32 33) * s + gram P.g (tab P) 32 32 * (s * s)
        + (2 * gram P.g (tab P) ⟨r, by omega⟩ 34 + 2 * gram P.g (tab P) 33 34 + gram P.g (tab P) 34 34) * O
        + (2 * gram P.g (tab P) ⟨r, by omega⟩ 35 + 2 * gram P.g (tab P) 33 35 + gram P.g (tab P) 35 35) * M
        + 2 * gram P.g (tab P) 32 34 * (s * O) + 2 * gram P.g (tab P) 32 35 * (s * M)
        + 2 * gram P.g (tab P) 34 35 * (O * M) := rfl
  rw [e0]
  have e1 : varEps (emb P s o m r) eps
      = ∑ j, (tab P ⟨r, by omega⟩ j + s * tab P 32 j + tab P 33 j + O * tab P 34 j + M * tab P 35 j) ^ 2
          * (1 / (P.g j * P.g j * 128)) + eps := by
    unfold varEps
    rw [Finset.sum_div]
    congr 1
    refine Finset.sum_congr rfl fun j _ => ?_
    rw [hd j]
    have := hg j
    field_simp
  rw [e1]
  have e2 : ∀ j, (tab P ⟨r, by omega⟩ j + s * tab P 32 j + tab P 33 j + O * tab P 34 j + M * tab P 35 j) ^ 2
          * (1 / (P.g j * P.g j * 128))
      = (tab P ⟨r, by omega⟩ j * (1 / (P.g j * P.g j * 128)) * tab P ⟨r, by omega⟩ j)
        + 2 * (tab P ⟨r, by omega⟩ j * (1 / (P.g j * P.g j * 128)) * tab P 33 j)
        + (tab P 33 j * (1 / (P.g j * P.g j * 128)) * tab P 33 j)
        + (2 * s) * (tab P ⟨r, by omega⟩ j * (1 / (P.g j * P.g j * 128)) * tab P 32 j)
        + (2 * s) * (tab P 32 j * (1 / (P.g j * P.g j * 128)) * tab P 33 j)
        + (s * s) * (tab P 32 j * (1 / (P.g j * P.g j * 128)) * tab P 32 j)
        + (2 * O) * (tab P ⟨r, by omega⟩ j * (1 / (P.g j * P.g j * 128)) * tab P 34 j)
        + (2 * O) * (tab P 33 j * (1 / (P.g j * P.g j * 128)) * tab P 34 j)
        + O * (tab P 34 j * (1 / (P.g j * P.g j * 128)) * tab P 34 j)
        + (2 * M) * (tab P ⟨r, by omega⟩ j * (1 / (P.g j * P.g j * 128)) * tab P 35 j)
        + (2 * M) * (tab P 33 j * (1 / (P.g j * P.g j * 128)) * tab P 35 j)
        + M * (tab P 35 j * (1 / (P.g j * P.g j * 128)) * tab P 35 j)
        + (2 * (s * O)) * (tab P 32 j * (1 / (P.g j * P.g j * 128)) * tab P 34 j)
        + (2 * (s * M)) * (tab P 32 j * (1 / (P.g j * P.g j * 128)) * tab P 35 j)
        + (2 * (O * M)) * (tab P 34 j * (1 / (P.g j * P.g j * 128)) * tab P 35 j) := by
    intro j
    generalize tab P ⟨r, by omega⟩ j = a
    generalize tab P 32 j = b
    generalize tab P 33 j = c
    generalize tab P 34 j = d
    generalize tab P 35 j = e
    generalize 1 / (P.g j * P.g j * 128) = w
    linear_combination (w * d * d) * ho + (w * e * e) * hm
  simp only [e2, Finset.sum_add_distrib, ← Finset.mul_sum]
  change _ = gram P.g (tab P) ⟨r, by omega⟩ ⟨r, by omega⟩ + 2 * gram P.g (tab P) ⟨r, by omega⟩ 33 + gram P.g (tab P) 33 33
    + (2 * s) * gram P.g (tab P) ⟨r, by omega⟩ 32 + (2 * s) * gram P.g (tab P) 32 33 + (s * s) * gram P.g (tab P) 32 32
    + (2 * O) * gram P.g (tab P) ⟨r, by omega⟩ 34 + (2 * O) * gram P.g (tab P) 33 34 + O * gram P.g (tab P) 34 34
    + (2 * M) * gram P.g (tab P) ⟨r, by omega⟩ 35 + (2 * M) * gram P.g (tab P) 33 35 + M * gram P.g (tab P) 35 35
    + (2 * (s * O)) * gram P.g (tab P) 32 34 + (2 * (s * M)) * gram P.g (tab P) 32 35
    + (2 * (O * M)) * gram P.g (tab P) 34 35 + eps
  ring

/-- The variance plus a positive epsilon is positive. -/
theorem varEps_pos (x : Fin 128 → ℝ) (eps : ℝ) (he : 0 < eps) : 0 < varEps x eps := by
  unfold varEps
  have : 0 ≤ ∑ k : Fin 128, (x k - mean x) * (x k - mean x) := Finset.sum_nonneg fun k _ => mul_self_nonneg _
  positivity

/-- The kernel's output is the layer norm of the token's embedding. -/
theorem kout_eq (P : Par) (hg : ∀ j, P.g j ≠ 0) (eps s : ℝ) (o m : Fin 2) (r : Fin 32) (j : Fin 128) :
    kout (tab P) (vt (gram P.g (tab P)) eps r) r s o.val m.val j = lnorm (emb P s o m r) P.g eps j := by
  unfold kout
  rw [ssq_eq P hg]
  have : ∀ k : Fin 40, coef r s o.val m.val k * (Real.sqrt (varEps (emb P s o m r) eps))⁻¹ * tab P k j
      = (Real.sqrt (varEps (emb P s o m r) eps))⁻¹ * (coef r s o.val m.val k * tab P k j) := fun k => by ring
  simp only [this, ← Finset.mul_sum, coef_tab]
  unfold cen lnorm
  rw [div_eq_mul_inv]
  ring

end Cert.Maths

end
-- ==== Proof.Scalars.lean ====
/- Scalar facts: the literals both programs use, sums and quotients of real numbers among the extended reals, and the
   integer indices (floor and clip on one side, cast toward zero on the other). -/
module

public import Idealize.ShloMosaic.Lib.Pointwise
public import Mathlib.Analysis.SpecialFunctions.Pow.Real

@[expose] public section

noncomputable section

namespace Cert.Scalars

open Idealize.ShloMosaic

/-- A sum of real numbers is real. -/
theorem sum_coe {n : ℕ} (f : Fin n → ℝ) : ∑ k, ((f k : ℝ) : EReal) = ((∑ k, f k : ℝ) : EReal) := by
  induction (Finset.univ : Finset (Fin n)) using Finset.cons_induction with
  | empty => simp
  | cons a s ha ih => rw [Finset.sum_cons, Finset.sum_cons, ih, EReal.coe_add]

/-- The literal 128. -/
theorem lit_128 : Ideal.ofBits .f32 0x43000000#32 = ((128 : ℝ) : EReal) := by
  simp [Ideal.ofBits, Ideal.ieee, -EReal.coe_mul]; norm_num

/-- The literal 31. -/
theorem lit_31 : Ideal.ofBits .f32 0x41F80000#32 = ((31 : ℝ) : EReal) := by
  simp [Ideal.ofBits, Ideal.ieee, -EReal.coe_mul]; norm_num

/-- The literal 2. -/
theorem lit_2 : Ideal.ofBits .f32 0x40000000#32 = ((2 : ℝ) : EReal) := by
  simp [Ideal.ofBits, Ideal.ieee, -EReal.coe_mul]; norm_num

/-- The norm's epsilon as a real number. -/
def eps : ℝ := 10995116 / 1099511627776

/-- The literal epsilon. -/
theorem lit_eps : Ideal.ofBits .f32 0x3727C5AC#32 = (eps : EReal) := by
  unfold eps
  simp [Ideal.ofBits, Ideal.ieee, -EReal.coe_mul]; norm_num

/-- Epsilon is positive. -/
theorem eps_pos : 0 < eps := by unfold eps; norm_num

/-- A quotient of real numbers is real. -/
theorem div_real (x y : ℝ) (h : y ≠ 0) : Ideal.div (x : EReal) (y : EReal) = ((x / y : ℝ) : EReal) := by
  rw [Ideal.div_coe h, ← EReal.coe_mul, mul_one_div]

/-- The inverse root of a positive real number. -/
theorem rsqrt_real (x : ℝ) (h : 0 < x) : Ideal.rsqrt (x : EReal) = (((Real.sqrt x)⁻¹ : ℝ) : EReal) := by
  rw [Ideal.rsqrt_coe, if_neg (by linarith), if_neg h.ne']

/-- The root of a positive real number. -/
theorem sqrt_real (x : ℝ) (h : 0 < x) : Ideal.sqrt (x : EReal) = ((Real.sqrt x : ℝ) : EReal) := by
  rw [Ideal.sqrt_coe, if_neg (by linarith)]

/-- The index a number names: its floor held inside `0..n`. -/
def clipIx (n : ℕ) (x : ℝ) : ℕ := min n ⌊x⌋.toNat

theorem clipIx_le (n : ℕ) (x : ℝ) : clipIx n x ≤ n := min_le_left _ _

/-- Floor and clip among the extended reals. -/
theorem clip_floor (n : ℕ) (x : ℝ) :
    min (((n : ℝ)) : EReal) (max (0 : EReal) (Ideal.liftRound Int.floor (x : EReal))) = (((clipIx n x : ℕ) : ℝ) : EReal) := by
  have h : Ideal.liftRound Int.floor (x : EReal) = (((⌊x⌋ : ℤ) : ℝ) : EReal) := rfl
  rw [h]
  unfold clipIx
  generalize ⌊x⌋ = z
  rw [show (0 : EReal) = ((0 : ℝ) : EReal) from rfl, ← EReal.coe_strictMono.monotone.map_max, ← EReal.coe_strictMono.monotone.map_min]
  congr 1
  have e : ((0 : ℝ) ⊔ (z : ℝ)) = ((z.toNat : ℕ) : ℝ) := by
    rcases le_total 0 z with hz | hz
    · rw [max_eq_right (by exact_mod_cast hz)]
      have := Int.toNat_of_nonneg hz
      exact_mod_cast this.symm
    · rw [max_eq_left (by exact_mod_cast hz), Int.toNat_of_nonpos hz]; simp
  rw [e, Nat.cast_min]

/-- The word of a natural number cast from its real. -/
theorem fptosi_nat (n : ℕ) (h : n < 2 ^ 31) : Ideal.fptosi 32 (((n : ℕ) : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    simp only [Nat.reduceSub, Nat.reducePow] at h ⊢
    omega
  rw [this]
  rfl

/-- A flag between -1 and 2 cast to an integer is its clipped floor. -/
theorem fptosi_flag (x : ℝ) (h0 : -1 < x) (h1 : x < 2) : Ideal.fptosi 32 (x : EReal) = BitVec.ofNat 32 (clipIx 1 x) := by
  unfold Ideal.fptosi clipIx
  rw [Ideal.toIntClamped_coe]
  by_cases hx : 0 ≤ x
  · rw [if_pos hx]
    have a0 : 0 ≤ ⌊x⌋ := Int.floor_nonneg.2 hx
    have a1 : ⌊x⌋ < 2 := by rw [Int.floor_lt]; exact_mod_cast h1
    generalize ⌊x⌋ = z at a0 a1 ⊢
    have : z = 0 ∨ z = 1 := by omega
    rcases this with rfl | rfl <;> decide
  · rw [if_neg hx]
    push Not at hx
    have a0 : ⌊x⌋ < 0 := by rw [Int.floor_lt]; exact_mod_cast hx
    have b : ⌈x⌉ = 0 := by
      rw [Int.ceil_eq_iff]; constructor <;> push_cast <;> linarith
    rw [b, Int.toNat_of_nonpos a0.le]
    decide

/-- A position cast to an integer and clipped is its clipped floor. -/
theorem clip_fptosi (x : ℝ) :
    IntOp.minsi 31#32 (IntOp.maxsi 0#32 (Ideal.fptosi 32 (x : EReal))) = BitVec.ofNat 32 (clipIx 31 x) := by
  unfold Ideal.fptosi clipIx
  rw [Ideal.toIntClamped_coe]
  have key : ∀ z : ℤ, (-2147483648 ≤ z ∧ z ≤ 2147483647) →
      IntOp.minsi 31#32 (IntOp.maxsi 0#32 (BitVec.ofInt 32 z)) = BitVec.ofNat 32 (min 31 z.toNat) := by
    intro z hz
    have ht : (BitVec.ofInt 32 z).toInt = z := by
      rw [BitVec.toInt_ofInt, Int.bmod_def]; simp only [Nat.reducePow]; omega
    unfold IntOp.minsi IntOp.maxsi
    simp only [BitVec.slt, ht, show (0#32 : BitVec 32).toInt = 0 from rfl, show (31#32 : BitVec 32).toInt = 31 from rfl, decide_eq_true_eq]
    by_cases h0 : z < 0
    · rw [if_pos h0, show (0#32 : BitVec 32).toInt = 0 from rfl, if_neg (by omega), Int.toNat_of_nonpos h0.le]
      rfl
    · rw [if_neg h0, ht]
      by_cases h1 : 31 < z
      · rw [if_pos h1, Nat.min_eq_left (by omega)]
      · rw [if_neg h1, Nat.min_eq_right (by omega)]
        conv_lhs => rw [show z = ((z.toNat : ℕ) : ℤ) by omega]
        rfl
  rw [key _ (by simp only [Nat.reduceSub, Nat.reducePow]; omega)]
  congr 1
  simp only [Nat.reduceSub, Nat.reducePow]
  by_cases hx : 0 ≤ x
  · rw [if_pos hx]
    have a0 : 0 ≤ ⌊x⌋ := Int.floor_nonneg.2 hx
    omega
  · rw [if_neg hx]
    push Not at hx
    have a0 : ⌊x⌋ < 0 := by rw [Int.floor_lt]; exact_mod_cast hx
    have b : ⌈x⌉ ≤ 0 := by rw [Int.ceil_le]; exact_mod_cast hx.le
    omega

/-- A true flag as a number is one. -/
theorem uitofp_true : (FloatOps.uitofp (F := Ideal) .f32 (1#1) : EReal) = 1 := by
  show (((1#1 : BitVec 1).toNat : ℝ) : EReal) = 1
  simp

end Cert.Scalars

end
-- ==== Proof.FoldVal.lean ====
/- What the folding kernel computes, at real inputs: each row of the folded table and each variance coefficient, as the
   real expressions of `Maths`. -/
module

public import proofs.«01_k».proof.Proof.Gen.KernelIdeal.Frame
public import proofs.«01_k».proof.Proof.Maths
public import proofs.«01_k».proof.Proof.Scalars

@[expose] public section

set_option maxRecDepth 16384

noncomputable section

namespace Cert.KernelIdeal.Value

open Idealize.ShloMosaic Idealize.ShloMosaic.TcCoe
open Cert.KernelIdeal Cert.KernelIdeal.Gen Cert.Maths Cert.Scalars

/-- The folding kernel's operands hold the parameters `P`. -/
structure Folds (P : Par) (p8 : FVec Ideal S8x32 .f32) (s8 : FVec Ideal S8x128 .f32) (ps : FVec Ideal S32x32 .f32)
    (w : FVec Ideal S128x128 .f32) : Prop where
  wv : ∀ k : Fin 32, p8 (ix2 0 k) = (P.wv k : EReal)
  bv : ∀ k : Fin 32, p8 (ix2 1 k) = (P.bv k : EReal)
  obs0 : ∀ k : Fin 32, p8 (ix2 2 k) = (P.obs 0 k : EReal)
  obs1 : ∀ k : Fin 32, p8 (ix2 3 k) = (P.obs 1 k : EReal)
  msk0 : ∀ k : Fin 32, p8 (ix2 4 k) = (P.msk 0 k : EReal)
  msk1 : ∀ k : Fin 32, p8 (ix2 5 k) = (P.msk 1 k : EReal)
  bo : ∀ j : Fin 128, s8 (ix2 0 j) = (P.bo j : EReal)
  g : ∀ j : Fin 128, s8 (ix2 1 j) = (P.g j : EReal)
  ps : ∀ r k : Fin 32, ps (ix2 r k) = (P.ps r k : EReal)
  wo : ∀ k j : Fin 128, w (ix2 k j) = (P.wo j k : EReal)

variable {P : Par} {p8 : FVec Ideal S8x32 .f32} {s8 : FVec Ideal S8x128 .f32} {ps : FVec Ideal S32x32 .f32}
  {w : FVec Ideal S128x128 .f32}

/-- A position row, centred and scaled. -/
theorem pay10_at (H : Folds P p8 s8 ps w) (r : Fin 32) (j : Fin 128) :
    k0_pay10 (F := Ideal) s8 w ps (ix2 r j) = (cen P.g (rowP P r) j : EReal) := by
  pointwise [k0_pay10, k0_pay5, k0_pay4, k0_pay3]
  simp only [H.ps, H.wo, H.g, lit_128, ← EReal.coe_mul, sum_coe, div_real _ _ (show (128 : ℝ) ≠ 0 by norm_num), ← EReal.coe_sub]
  rfl

/-- The value weights' row, centred and scaled. -/
theorem pay13_at (H : Folds P p8 s8 ps w) (r : Fin 1) (j : Fin 128) :
    k0_pay13 (F := Ideal) (k0_pay5 s8) (k0_pay6 p8 w) (k0_pay11 p8 w) k0_pay12 (ix2 r j) = (cen P.g (rowV P) j : EReal) := by
  pointwise [k0_pay13, k0_pay11, k0_pay12, k0_pay6, k0_pay5, k0_pay4, k0_pay3, k0_pay2]
  simp only [H.wv, H.wo, H.g, lit_128, ← EReal.coe_mul, sum_coe, div_real _ _ (show (128 : ℝ) ≠ 0 by norm_num), ← EReal.coe_sub]
  rfl

/-- The row that every token gets, centred and scaled. -/
theorem pay14_at (H : Folds P p8 s8 ps w) (r : Fin 1) (j : Fin 128) :
    k0_pay14 (F := Ideal) (k0_pay5 s8) (k0_pay9 p8 s8 w) (ix2 r j) = (cen P.g (rowC P) j : EReal) := by
  pointwise [k0_pay14, k0_pay9, k0_pay7, k0_pay8, k0_pay5, k0_pay4, k0_pay3, k0_pay2]
  simp only [H.bv, H.obs0, H.msk0, H.bo, H.wo, H.g, lit_128, ← EReal.coe_mul, sum_coe,
    div_real _ _ (show (128 : ℝ) ≠ 0 by norm_num), ← EReal.coe_sub, ← EReal.coe_add]
  rfl

/-- The step between the two observation rows, centred and scaled. -/
theorem pay15_at (H : Folds P p8 s8 ps w) (r : Fin 1) (j : Fin 128) :
    k0_pay15 (F := Ideal) (k0_pay5 s8) (k0_pay7 p8 w) (ix2 r j) = (cen P.g (rowO P) j : EReal) := by
  pointwise [k0_pay15, k0_pay7, k0_pay5, k0_pay4, k0_pay3, k0_pay2]
  simp only [H.obs0, H.obs1, H.wo, H.g, lit_128, ← EReal.coe_mul, sum_coe,
    div_real _ _ (show (128 : ℝ) ≠ 0 by norm_num), ← EReal.coe_sub, ← EReal.coe_add]
  rfl

/-- The step between the two mask rows, centred and scaled. -/
theorem pay16_at (H : Folds P p8 s8 ps w) (r : Fin 1) (j : Fin 128) :
    k0_pay16 (F := Ideal) (k0_pay5 s8) (k0_pay8 p8 w) (ix2 r j) = (cen P.g (rowM P) j : EReal) := by
  pointwise [k0_pay16, k0_pay8, k0_pay5, k0_pay4, k0_pay3, k0_pay2]
  simp only [H.msk0, H.msk1, H.wo, H.g, lit_128, ← EReal.coe_mul, sum_coe,
    div_real _ _ (show (128 : ℝ) ≠ 0 by norm_num), ← EReal.coe_sub, ← EReal.coe_add]
  rfl

/-- The rows that fill up the table are zero. -/
theorem pay17_at (r : Fin 4) (j : Fin 128) : k0_pay17 (F := Ideal) (ix2 r j) = ((0 : ℝ) : EReal) := by
  pointwise [k0_pay17]
  rfl

/-- The gram matrix of a table of real numbers. -/
theorem pay19_at (H : Folds P p8 s8 ps w) (hg : ∀ j, P.g j ≠ 0) {t : FVec Ideal S40x128 .f32} {T : Fin 40 → Fin 128 → ℝ}
    (hT : ∀ a j, t (ix2 a j) = (T a j : EReal)) (a b : Fin 40) :
    k0_pay19 (F := Ideal) (k0_pay18 (k0_pay5 s8)) t (ix2 a b) = (gram P.g T a b : EReal) := by
  pointwise [k0_pay19, k0_pay18, k0_pay5, k0_pay4, k0_pay3, k0_pay2]
  have hd : ∀ j, Ideal.div (1 : EReal) ((P.g j * P.g j * 128 : ℝ) : EReal) = ((1 / (P.g j * P.g j * 128) : ℝ) : EReal) :=
    fun j => div_real 1 _ (by have := hg j; positivity)
  simp only [hT, H.g, lit_128, ← EReal.coe_mul, hd, sum_coe]
  rfl

/-- The diagonal of a matrix picked out by comparing row and column numbers. -/
theorem diag_sum (r : Fin 32) (f : Fin 40 → ℝ) :
    ∑ x : Fin 40, Scalar.select (IntOp.cmpi .eq (BitVec.ofNat 32 r) (BitVec.ofNat 32 x)) ((f x : ℝ) : EReal) 0
      = ((f ⟨r, by omega⟩ : ℝ) : EReal) := by
  rw [Finset.sum_eq_single (⟨r, by omega⟩ : Fin 40)]
  · have : IntOp.cmpi .eq (BitVec.ofNat 32 r) (BitVec.ofNat 32 r) = 1#1 := by unfold IntOp.cmpi; simp
    rw [this]; rfl
  · intro b _ hb
    have : IntOp.cmpi .eq (BitVec.ofNat 32 r) (BitVec.ofNat 32 b) = 0#1 := by
      have hr := r.isLt
      have hb' := b.isLt
      have hne : ¬ r.val = b.val := fun h => hb (Fin.ext h.symm)
      unfold IntOp.cmpi
      simp only [beq_eq_false_iff_ne.2 (show BitVec.ofNat 32 r.val ≠ BitVec.ofNat 32 b.val from fun h => hne (by
        have := congrArg BitVec.toNat h
        simp only [BitVec.toNat_ofNat] at this
        omega))]
      rfl
    rw [this]; rfl
  · intro h; exact absurd (Finset.mem_univ _) h

/-- The variance coefficients of a table of real numbers. -/
theorem pay1_at (H : Folds P p8 s8 ps w) (hg : ∀ j, P.g j ≠ 0) {t : FVec Ideal S40x128 .f32} {T : Fin 40 → Fin 128 → ℝ}
    (hT : ∀ a j, t (ix2 a j) = (T a j : EReal)) (r : Fin 32) (c : Fin 8) :
    k0_pay1 (F := Ideal) (k0_pay19 (k0_pay18 (k0_pay5 s8)) t) (k0_pay20 (k0_pay18 (k0_pay5 s8)) t)
      (k0_pay21 (k0_pay18 (k0_pay5 s8)) t) (k0_pay22 (k0_pay18 (k0_pay5 s8)) t) (k0_pay23 (k0_pay18 (k0_pay5 s8)) t)
      (k0_pay24 (k0_pay18 (k0_pay5 s8)) t) (k0_pay25 (k0_pay18 (k0_pay5 s8)) t) k0_pay26 (ix2 r c)
      = (vt (gram P.g T) eps r c : EReal) := by
  have hG := pay19_at H hg hT
  pointwise [k0_pay1, k0_pay20, k0_pay21, k0_pay22, k0_pay23, k0_pay24, k0_pay25, k0_pay26]
  fin_vals c with hk
  all_goals simp only [hk, Nat.reduceSub, Nat.reduceLT, ↓reduceDIte, hG, diag_sum, lit_2, lit_eps, ← EReal.coe_mul, ← EReal.coe_add]
  all_goals (refine congrArg _ ?_; unfold vt; simp only [hk, Nat.reduceEqDiff, OfNat.ofNat_ne_zero, OfNat.ofNat_ne_one, one_ne_zero, if_true, if_false])
  all_goals rfl

end Cert.KernelIdeal.Value

end
-- ==== Proof.Arr0.lean ====
/- What the folding launch leaves in its two result arrays. -/
module

public import proofs.«01_k».proof.Proof.FoldVal
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Maths Cert.Scalars

variable {P : Par} {p8 : FVec Ideal S8x32 .f32} {s8 : FVec Ideal S8x128 .f32} {ps : FVec Ideal S32x32 .f32}
  {w : FVec Ideal S128x128 .f32}

/-- A stored row of the table, read at an index of the row. -/
theorem row_at {f : FVec Ideal S1x128 .f32} {g : Fin 128 → ℝ} (hf : ∀ r j, f (ix2 r j) = (g j : EReal)) (x : S1x128.Idx)
    (j : Fin 128) (h : (j : ℕ) = x 1) : f x = (g j : EReal) := by
  idx_vars x
  obtain rfl : j = x1 := Fin.ext h
  exact hf x0 j

/-- The table the folding launch stores, whole: six stored pieces. -/
theorem outTab_at (c : Dev nD) (t : Fin cfg0.N) (H : Folds P p8 s8 ps w) (k : Fin 40) (j : Fin 128) :
    out0_A_4 (F := Ideal) c (ms0_0 t) (hs0_0 t) (ms0_1 t) (hs0_1 t) (ms0_2 t) (hs0_2 t) (ms0_3 t) (hs0_3 t) (ms0_4 t) (hs0_4 t)
      (ms0_5 t) (hs0_5 t) p8 s8 ps w (ix2 k j) = (tab P k j : EReal) := by
  frame_out
  simp only [read_unread_whole]
  canon_tiles x h using (View.cover_of_tiledBy _ ![1, 128] (by sl_kernel_rfl) _)
  all_goals replace h1 : (j : ℕ) = x 1 := h1
  case piece0 =>
    replace h0 : (k : ℕ) = 36 + x 0 := h0
    have e : tab P k j = 0 := by
      unfold tab
      rw [dif_neg (by omega), if_neg (by omega), if_neg (by omega), if_neg (by omega), if_neg (by omega)]
    rw [e]
    idx_vars x
    exact pay17_at x0 x1
  case piece5 =>
    replace h0 : (k : ℕ) = x 0 := h0
    have e : tab P k j = cen P.g (rowP P ⟨k, by omega⟩) j := by
      unfold tab
      rw [dif_pos (by omega)]
    rw [e]
    idx_vars x
    obtain rfl : j = x1 := Fin.ext h1
    have hx : (⟨k, by omega⟩ : Fin 32) = x0 := Fin.ext h0
    rw [hx]
    exact pay10_at H x0 j
  all_goals refine (row_at ?_ x j h1 (g := fun j => tab P k j)).trans rfl
  all_goals intro r j
  case piece4 =>
    refine (pay13_at H r j).trans (congrArg _ ?_)
    have hk : (k : ℕ) = 32 := by have : (k : ℕ) = 32 + x 0 := h0; omega
    simp [tab, hk]
  case piece3 =>
    refine (pay14_at H r j).trans (congrArg _ ?_)
    have hk : (k : ℕ) = 33 := by have : (k : ℕ) = 33 + x 0 := h0; omega
    simp [tab, hk]
  case piece2 =>
    refine (pay15_at H r j).trans (congrArg _ ?_)
    have hk : (k : ℕ) = 34 := by have : (k : ℕ) = 34 + x 0 := h0; omega
    simp [tab, hk]
  case piece1 =>
    refine (pay16_at H r j).trans (congrArg _ ?_)
    have hk : (k : ℕ) = 35 := by have : (k : ℕ) = 35 + x 0 := h0; omega
    simp [tab, hk]

/-- The variance coefficients the folding launch stores, computed from the table it reads back. -/
theorem outVar_at (c : Dev nD) (t : Fin cfg0.N) (H : Folds P p8 s8 ps w) (hg : ∀ j, P.g j ≠ 0) (r : Fin 32) (q : Fin 8) :
    out0_A_5 (F := Ideal) c (ms0_0 t) (hs0_0 t) (ms0_1 t) (hs0_1 t) (ms0_2 t) (hs0_2 t) (ms0_3 t) (hs0_3 t) (ms0_4 t) (hs0_4 t)
      (ms0_5 t) (hs0_5 t) p8 s8 ps w (ix2 r q) = (vt (gram P.g (tab P)) eps r q : EReal) := by
  frame_out
  simp only [read_unread_whole]
  refine pay1_at H hg (fun a j => ?_) r q
  refine Eq.trans ?_ (outTab_at c t H a j)
  frame_out
  simp only [read_unread_whole]
  rw [View.readCov_eq_canon']
  refine congrArg _ ?_
  funext e
  match e with
  | ⟨0, _⟩ => exact Fin.ext (by show 0 + 1 * (a : ℕ) = a; omega)
  | ⟨1, _⟩ => exact Fin.ext (by show 0 + 1 * (j : ℕ) = j; omega)

/-- Every window of the first call stands at the origin. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

variable (V : (c : Dev nD) → (b : Ref sig .tc) → Buf (Elt Ideal) ((c : Thread nD τ).loc b))

/-- Each input block of the first call is its whole array. -/
theorem blk0_0 (c : Dev nD) (t : Fin cfg0.N) : iblk0 V c 0 t = V c main_v5 := by
  blk_ext! [iblk0, idx0 t]
theorem blk0_1 (c : Dev nD) (t : Fin cfg0.N) : iblk0 V c 1 t = V c main_v10 := by
  blk_ext! [iblk0, idx0 t]
theorem blk0_2 (c : Dev nD) (t : Fin cfg0.N) : iblk0 V c 2 t = V c main_arg5 := by
  blk_ext! [iblk0, idx0 t]
theorem blk0_3 (c : Dev nD) (t : Fin cfg0.N) : iblk0 V c 3 t = V c main_v11 := by
  blk_ext! [iblk0, idx0 t]

/-- The table array after the folding launch. -/
theorem tab_arr (c : Dev nD) (H : Folds P (V c main_v5) (V c main_v10) (V c main_arg5) (V c main_v11)) :
    (dat0 V c).arrAt 4 cfg0.N = fun y : S40x128.Idx => ((tab P (y 0) (y 1) : ℝ) : EReal) := by
  refine (dat0 V c).arrAt_eq_of_after_last 4 t0_0 (by decide +kernel) _ fun y => ?_
  blk_simp
  rw [after0_4]
  unfold outsAt0
  rw [blk0_0, blk0_1, blk0_2, blk0_3]
  refine Eq.trans (congrArg _ ?_) (outTab_at c t0_0 H (y 0) (y 1))
  funext e
  match e with
  | ⟨0, _⟩ => rfl
  | ⟨1, _⟩ => rfl

/-- The array of variance coefficients after the folding launch. -/
theorem var_arr (c : Dev nD) (H : Folds P (V c main_v5) (V c main_v10) (V c main_arg5) (V c main_v11)) (hg : ∀ j, P.g j ≠ 0) :
    (dat0 V c).arrAt 5 cfg0.N = fun y : S32x8.Idx => ((vt (gram P.g (tab P)) eps (y 0) (y 1) : ℝ) : EReal) := by
  refine (dat0 V c).arrAt_eq_of_after_last 5 t0_0 (by decide +kernel) _ fun y => ?_
  blk_simp
  rw [after0_5]
  unfold outsAt0
  rw [blk0_0, blk0_1, blk0_2, blk0_3]
  refine Eq.trans (congrArg _ ?_) (outVar_at c t0_0 H hg (y 0) (y 1))
  funext e
  match e with
  | ⟨0, _⟩ => rfl
  | ⟨1, _⟩ => rfl

end Cert.KernelIdeal.Value

end
-- ==== Proof.TokVal.lean ====
/- What the token kernel computes for one chunk of 8192 tokens, at real inputs. -/
module

public import proofs.«01_k».proof.Proof.Gen.KernelIdeal.Frame
public import proofs.«01_k».proof.Proof.Maths
public import proofs.«01_k».proof.Proof.Scalars

@[expose] public section

set_option maxRecDepth 16384

noncomputable section

namespace Cert.KernelIdeal.Value

open Idealize.ShloMosaic Idealize.ShloMosaic.TcCoe
open Cert.KernelIdeal Cert.KernelIdeal.Gen Cert.Maths Cert.Scalars

/-- Lane `l` of a chunk holds a token's four features. -/
structure Lane (x : FVec Ideal S4x8192 .f32) (l : Fin 8192) (f : Fin 4 → ℝ) : Prop where
  f0 : x (ix2 0 l) = (f 0 : EReal)
  f1 : x (ix2 1 l) = (f 1 : EReal)
  f2 : x (ix2 2 l) = (f 2 : EReal)
  f3 : x (ix2 3 l) = (f 3 : EReal)

/-- A choice on the equality of two small numbers' words. -/
theorem sel_eq (k n : ℕ) (hk : k < 2 ^ 32) (hn : n < 2 ^ 32) (a b : EReal) :
    Scalar.select (IntOp.cmpi .eq (BitVec.ofNat 32 k) (BitVec.ofNat 32 n)) a b = if k = n then a else b := by
  by_cases h : k = n
  · subst h
    have : IntOp.cmpi .eq (BitVec.ofNat 32 k) (BitVec.ofNat 32 k) = 1#1 := by unfold IntOp.cmpi; simp
    rw [this, if_pos rfl]; rfl
  · have : IntOp.cmpi .eq (BitVec.ofNat 32 k) (BitVec.ofNat 32 n) = 0#1 := by
      unfold IntOp.cmpi
      simp only [beq_eq_false_iff_ne.2 (show BitVec.ofNat 32 k ≠ BitVec.ofNat 32 n from fun e => h (by
        have := congrArg BitVec.toNat e
        simp only [BitVec.toNat_ofNat] at this
        omega))]
      rfl
    rw [this, if_neg h]; rfl

/-- The flags' clip: the scale and the bound are both one. -/
theorem clip_flag (y : ℝ) :
    min (Scalar.select (IntOp.cmpi .eq 1#32 3#32) (Ideal.ofBits .f32 0x41F80000#32) (1 : EReal))
        (max 0 (Ideal.liftRound Int.floor
          ((y : EReal) * Scalar.select (IntOp.cmpi .eq 1#32 3#32) (Ideal.ofBits .f32 0x41F80000#32) (1 : EReal))))
      = (((clipIx 1 y : ℕ) : ℝ) : EReal) := by
  have h : Scalar.select (IntOp.cmpi .eq 1#32 3#32) (Ideal.ofBits .f32 0x41F80000#32) (1 : EReal) = 1 := rfl
  rw [h, mul_one, ← clip_floor 1 y, Nat.cast_one, EReal.coe_one]

/-- The position's clip: the scale and the bound are both 31. -/
theorem clip_pos (y : ℝ) :
    min (Ideal.ofBits .f32 0x41F80000#32) (max 0 (Ideal.liftRound Int.floor ((y : EReal) * Ideal.ofBits .f32 0x41F80000#32)))
      = (((clipIx 31 (y * 31) : ℕ) : ℝ) : EReal) := by
  rw [lit_31, ← EReal.coe_mul, ← clip_floor 31 (y * 31), Nat.cast_ofNat]

/-- The ladder's first rungs at a row number. -/
theorem low_rungs (k : Fin 40) (n : ℕ) (hn : n ≤ 31) (a b : ℝ) :
    Scalar.select (IntOp.cmpi .eq (BitVec.ofNat 32 k) 33#32) (1 : EReal)
      (Scalar.select (IntOp.cmpi .eq (BitVec.ofNat 32 k) 32#32) ((a : EReal) * (b : EReal))
        (Scalar.select (IntOp.cmpi .eq (BitVec.ofNat 32 k) (FloatOps.fptosi (F := Ideal) (φ := .f32) 32 (((n : ℕ) : ℝ) : EReal))) 1 0))
      = (((if k.val = 33 then 1 else if k.val = 32 then a * b else if k.val = n then 1 else 0 : ℝ)) : EReal) := by
  have hk := k.isLt
  have hw : FloatOps.fptosi (F := Ideal) (φ := .f32) 32 (((n : ℕ) : ℝ) : EReal) = BitVec.ofNat 32 n := fptosi_nat n (by omega)
  rw [hw, sel_eq k 33 (by omega) (by omega), sel_eq k 32 (by omega) (by omega), sel_eq k n (by omega) (by omega), ← EReal.coe_mul]
  split_ifs <;> rfl

section Chunks

variable {x : FVec Ideal S4x8192 .f32} {l : Fin 8192} {f : Fin 4 → ℝ}

/-- The value feature (first chunk). -/
theorem pay3_at (H : Lane x l f) (a : Fin 1) : k1_pay3 (F := Ideal) x (ix2 a l) = ((f 0 * f 1 : ℝ) : EReal) := by
  pointwise [k1_pay3, k1_pay1]
  rw [H.f0, H.f1, EReal.coe_mul]

/-- The observation flag (first chunk). -/
theorem pay4_at (H : Lane x l f) (a : Fin 1) :
    k1_pay4 (F := Ideal) x (ix2 a l) = (((clipIx 1 (f 1) : ℕ) : ℝ) : EReal) := by
  pointwise [k1_pay4, k1_pay2, k1_pay1]
  rw [H.f1]
  exact clip_flag (f 1)

/-- The mask flag (first chunk). -/
theorem pay5_at (H : Lane x l f) (a : Fin 1) :
    k1_pay5 (F := Ideal) x (ix2 a l) = (((clipIx 1 (f 2) : ℕ) : ℝ) : EReal) := by
  pointwise [k1_pay5, k1_pay2, k1_pay1]
  rw [H.f2]
  exact clip_flag (f 2)

/-- The first three rungs of the row weights (first chunk). -/
theorem pay6_at (H : Lane x l f) (k : Fin 40) :
    k1_pay6 (F := Ideal) x (ix2 k l) = (((if k.val = 33 then 1 else if k.val = 32 then f 0 * f 1
      else if k.val = clipIx 31 (f 3 * 31) then 1 else 0 : ℝ)) : EReal) := by
  pointwise [k1_pay6, k1_pay3, k1_pay2, k1_pay1]
  rw [H.f0, H.f1, H.f3, clip_pos]
  exact low_rungs k (clipIx 31 (f 3 * 31)) (clipIx_le 31 _) _ _

/-- The value feature (second chunk). -/
theorem pay11_at (H : Lane x l f) (a : Fin 1) : k1_pay11 (F := Ideal) x (ix2 a l) = ((f 0 * f 1 : ℝ) : EReal) := by
  pointwise [k1_pay11, k1_pay9]
  rw [H.f0, H.f1, EReal.coe_mul]

/-- The observation flag (second chunk). -/
theorem pay12_at (H : Lane x l f) (a : Fin 1) :
    k1_pay12 (F := Ideal) x (ix2 a l) = (((clipIx 1 (f 1) : ℕ) : ℝ) : EReal) := by
  pointwise [k1_pay12, k1_pay10, k1_pay9]
  rw [H.f1]
  exact clip_flag (f 1)

/-- The mask flag (second chunk). -/
theorem tpay13_at (H : Lane x l f) (a : Fin 1) :
    k1_pay13 (F := Ideal) x (ix2 a l) = (((clipIx 1 (f 2) : ℕ) : ℝ) : EReal) := by
  pointwise [k1_pay13, k1_pay10, k1_pay9]
  rw [H.f2]
  exact clip_flag (f 2)

/-- The first three rungs of the row weights (second chunk). -/
theorem tpay14_at (H : Lane x l f) (k : Fin 40) :
    k1_pay14 (F := Ideal) x (ix2 k l) = (((if k.val = 33 then 1 else if k.val = 32 then f 0 * f 1
      else if k.val = clipIx 31 (f 3 * 31) then 1 else 0 : ℝ)) : EReal) := by
  pointwise [k1_pay14, k1_pay11, k1_pay10, k1_pay9]
  rw [H.f0, H.f1, H.f3, clip_pos]
  exact low_rungs k (clipIx 31 (f 3 * 31)) (clipIx_le 31 _) _ _

end Chunks

/-- The position row of a token. -/
def posOf (y : ℝ) : Fin 32 := ⟨clipIx 31 (y * 31), by have := clipIx_le 31 (y * 31); omega⟩

/-- The last two rungs complete the row weights. -/
theorem rungs (k : Fin 40) (r : Fin 32) (s o m : ℝ) :
    Scalar.select (IntOp.cmpi .eq (BitVec.ofNat 32 k) 35#32) (m : EReal)
      (Scalar.select (IntOp.cmpi .eq (BitVec.ofNat 32 k) 34#32) (o : EReal)
        (((if k.val = 33 then 1 else if k.val = 32 then s else if k.val = r.val then 1 else 0 : ℝ)) : EReal))
      = ((coef r s o m k : ℝ) : EReal) := by
  have hk := k.isLt
  rw [sel_eq k 35 (by omega) (by omega), sel_eq k 34 (by omega) (by omega)]
  unfold coef
  split_ifs <;> rfl

/-- From the row weights to the output (first chunk). -/
theorem pay8_at (v22 v23 v24 : FVec Ideal S1x8192 .f32) (v27 : IVec S40x8192 32) (v41 : FVec Ideal S40x8192 .f32)
    (v43 : IVec S40x8192 1) (v : FVec Ideal S32x8 .f32) (tb : FVec Ideal S40x128 .f32) (l : Fin 8192) (j : Fin 128)
    {s o m : ℝ} {r : Fin 32} {V : Fin 32 → Fin 8 → ℝ} {T : Fin 40 → Fin 128 → ℝ}
    (h22 : v22 (ix2 0 l) = (s : EReal)) (h23 : v23 (ix2 0 l) = (o : EReal)) (h24 : v24 (ix2 0 l) = (m : EReal))
    (hc : ∀ k, Scalar.select (IntOp.cmpi .eq (v27 (ix2 k l)) 35#32) (v24 (ix2 0 l))
      (Scalar.select (v43 (ix2 k l)) (v23 (ix2 0 l)) (v41 (ix2 k l))) = ((coef r s o m k : ℝ) : EReal))
    (hv : ∀ k c, v (ix2 k c) = (V k c : EReal)) (hT : ∀ k j, tb (ix2 k j) = (T k j : EReal))
    (hpos : 0 < ssq (V r) s o m) :
    k1_pay8 (F := Ideal) v22 v23 v24 v27 v41 v43 v tb (ix2 l j) = (kout T (V r) r s o m j : EReal) := by
  have e := rsqrt_real _ hpos
  unfold ssq at e
  pointwise [k1_pay8]
  simp only [hc]
  simp only [hv, hT, h22, h23, h24, ← EReal.coe_mul, sum_coe, coef_sum_vt, ← EReal.coe_add, e]
  rfl

/-- From the row weights to the output (second chunk, whose observation flag comes already spread over the rows). -/
theorem tpay17_at (v22 v23 v24 : FVec Ideal S1x8192 .f32) (v27 : IVec S40x8192 32) (v41 : FVec Ideal S40x8192 .f32)
    (v43 : IVec S40x8192 1) (v44 : FVec Ideal S40x8192 .f32) (v : FVec Ideal S32x8 .f32) (tb : FVec Ideal S40x128 .f32)
    (l : Fin 8192) (j : Fin 128)
    {s o m : ℝ} {r : Fin 32} {V : Fin 32 → Fin 8 → ℝ} {T : Fin 40 → Fin 128 → ℝ}
    (h22 : v22 (ix2 0 l) = (s : EReal)) (h23 : v23 (ix2 0 l) = (o : EReal)) (h24 : v24 (ix2 0 l) = (m : EReal))
    (hc : ∀ k, Scalar.select (IntOp.cmpi .eq (v27 (ix2 k l)) 35#32) (v24 (ix2 0 l))
      (Scalar.select (v43 (ix2 k l)) (v44 (ix2 k l)) (v41 (ix2 k l))) = ((coef r s o m k : ℝ) : EReal))
    (hv : ∀ k c, v (ix2 k c) = (V k c : EReal)) (hT : ∀ k j, tb (ix2 k j) = (T k j : EReal))
    (hpos : 0 < ssq (V r) s o m) :
    k1_pay17 (F := Ideal) v22 v23 v24 v27 v41 v43 v44 v tb (ix2 l j) = (kout T (V r) r s o m j : EReal) := by
  have e := rsqrt_real _ hpos
  unfold ssq at e
  pointwise [k1_pay17]
  simp only [hc]
  simp only [hv, hT, h22, h23, h24, ← EReal.coe_mul, sum_coe, coef_sum_vt, ← EReal.coe_add, e]
  rfl

/-- The kernel's output at one token and one column, from the token's features. -/
def tokOut (T : Fin 40 → Fin 128 → ℝ) (V : Fin 32 → Fin 8 → ℝ) (f : Fin 4 → ℝ) (j : Fin 128) : ℝ :=
  kout T (V (posOf (f 3))) (posOf (f 3)) (f 0 * f 1) (clipIx 1 (f 1) : ℕ) (clipIx 1 (f 2) : ℕ) j

/-- The quadratic form at a token. -/
def tokSsq (V : Fin 32 → Fin 8 → ℝ) (f : Fin 4 → ℝ) : ℝ :=
  ssq (V (posOf (f 3))) (f 0 * f 1) (clipIx 1 (f 1) : ℕ) (clipIx 1 (f 2) : ℕ)

variable {x : FVec Ideal S4x8192 .f32} {v : FVec Ideal S32x8 .f32} {tb : FVec Ideal S40x128 .f32} {l : Fin 8192}
  {f : Fin 4 → ℝ} {V : Fin 32 → Fin 8 → ℝ} {T : Fin 40 → Fin 128 → ℝ}

/-- The first chunk's stored value. -/
theorem chunk0_at (H : Lane x l f) (hv : ∀ k c, v (ix2 k c) = (V k c : EReal)) (hT : ∀ k j, tb (ix2 k j) = (T k j : EReal))
    (hpos : 0 < tokSsq V f) (j : Fin 128) :
    k1_pay8 (F := Ideal) (k1_pay3 x) (k1_pay4 x) (k1_pay5 x) (iota .tc S40x8192 32 [0] iota_S40x8192_d0_w32) (k1_pay6 x)
      k1_pay7 v tb (ix2 l j) = (tokOut T V f j : EReal) := by
  refine pay8_at _ _ _ _ _ _ _ _ l j (pay3_at H 0) (pay4_at H 0) (pay5_at H 0) (fun k => ?_) hv hT hpos
  rw [pay4_at H 0, pay5_at H 0, pay6_at H k]
  pointwise [k1_pay7]
  exact rungs k (posOf (f 3)) _ _ _

/-- The second chunk's stored value. -/
theorem chunk1_at (H : Lane x l f) (hv : ∀ k c, v (ix2 k c) = (V k c : EReal)) (hT : ∀ k j, tb (ix2 k j) = (T k j : EReal))
    (hpos : 0 < tokSsq V f) (j : Fin 128) :
    k1_pay17 (F := Ideal) (k1_pay11 x) (k1_pay12 x) (k1_pay13 x) (iota .tc S40x8192 32 [0] iota_S40x8192_d0_w32) (k1_pay14 x)
      k1_pay15 (k1_pay16 x) v tb (ix2 l j) = (tokOut T V f j : EReal) := by
  refine tpay17_at _ _ _ _ _ _ _ _ _ l j (pay11_at H 0) (pay12_at H 0) (tpay13_at H 0) (fun k => ?_) hv hT hpos
  have h16 : k1_pay16 (F := Ideal) x (ix2 k l) = k1_pay12 (F := Ideal) x (ix2 0 l) := by
    pointwise [k1_pay16]
  rw [h16, pay12_at H 0, tpay13_at H 0, tpay14_at H k]
  pointwise [k1_pay15]
  exact rungs k (posOf (f 3)) _ _ _

end Cert.KernelIdeal.Value

end
-- ==== Proof.Arr1.lean ====
/- What the token launch leaves in its result array. -/
module

public import proofs.«01_k».proof.Proof.TokVal
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Maths Cert.Scalars

/-- A chunk of 8192 tokens read out of the block at lane offset `o` holds the features of the tokens there. -/
theorem lane_of {x0 : FVec Ideal S4x16384 .f32} {G : Fin 16384 → Fin 4 → ℝ} (h : ∀ i l, x0 (ix2 i l) = (G l i : EReal))
    {x : FVec Ideal S4x8192 .f32} {l : Fin 16384} {l' : Fin 8192} (hx : ∀ i : Fin 4, x (ix2 i l') = x0 (ix2 i l)) :
    Lane x l' (G l) :=
  ⟨(hx 0).trans (h 0 l), (hx 1).trans (h 1 l), (hx 2).trans (h 2 l), (hx 3).trans (h 3 l)⟩

/-- What the launch's body leaves of one block of 16384 tokens. -/
theorem block_at {X0 : FVec Ideal S4x16384 .f32} {X1 : FVec Ideal S40x128 .f32} {X2 : FVec Ideal S32x8 .f32}
    {G : Fin 16384 → Fin 4 → ℝ} {T : Fin 40 → Fin 128 → ℝ} {U : Fin 32 → Fin 8 → ℝ}
    (hx : ∀ i l, X0 (ix2 i l) = (G l i : EReal)) (ht : ∀ k j, X1 (ix2 k j) = (T k j : EReal))
    (hv : ∀ k q, X2 (ix2 k q) = (U k q : EReal)) (hpos : ∀ l, 0 < tokSsq U (G l)) (l : Fin 16384) (j : Fin 128) :
    out1_3 (F := Ideal) X0 X1 X2 (ix2 l j) = (tokOut T U (G l) j : EReal) := by
  unfold out1_3
  frame_out
  canon_tiles x h
  case piece0 =>
    idx_vars x
    obtain rfl : j = x1 := Fin.ext h1
    have e (i : Fin 4) : r1_4.idx (ix2 i x0) = ix2 i l := by
      funext e
      match e with
      | ⟨0, _⟩ => exact Fin.ext (by show 0 + 1 * (i : ℕ) = i; omega)
      | ⟨1, _⟩ => exact Fin.ext (by show 8192 + 1 * (x0 : ℕ) = (l : ℕ); have : (l : ℕ) = 8192 + x0 := h0; omega)
    have hl : Lane (fun y : S4x8192.Idx => X0 (r1_4.idx y)) x0 (G l) := lane_of hx fun i => congrArg X0 (e i)
    exact chunk1_at hl hv ht (hpos l) j
  case piece1 =>
    idx_vars x
    obtain rfl : j = x1 := Fin.ext h1
    have e (i : Fin 4) : r1_0.idx (ix2 i x0) = ix2 i l := by
      funext e
      match e with
      | ⟨0, _⟩ => exact Fin.ext (by show 0 + 1 * (i : ℕ) = i; omega)
      | ⟨1, _⟩ => exact Fin.ext (by show 0 + 1 * (x0 : ℕ) = (l : ℕ); have : (l : ℕ) = x0 := h0; omega)
    have hl : Lane (fun y : S4x8192.Idx => X0 (r1_0.idx y)) x0 (G l) := lane_of hx fun i => congrArg X0 (e i)
    exact chunk0_at hl hv ht (hpos l) j

/-- Where the windows of the second call stand: the tokens and the result move with the step, the two tables stay. -/
theorem idx1 : ∀ t : Fin cfg1.N, win1_0.index t = ![0, t.val] ∧ win1_1.index t = ![0, 0] ∧ win1_2.index t = ![0, 0]
    ∧ win1_3.index t = ![t.val, 0] ∧ t.val < 32 :=
  (by decide +kernel : ∀ t : Fin grid1.N, _)

variable (V : (c : Dev nD) → (b : Ref sig .tc) → Buf (Elt Ideal) ((c : Thread nD τ).loc b))

/-- The second call's block of tokens at a step. -/
theorem blk1_0 (c : Dev nD) (t : Fin cfg1.N) (i : Fin 4) (l : Fin 16384) :
    (show FVec Ideal S4x16384 .f32 from iblk1 V c 0 t) (ix2 i l)
      = V c main_v1 (ix2 i ⟨t.val * 16384 + l.val, by have := (idx1 t).2.2.2.2; omega⟩) := by
  blk_ext [iblk1, idx1 t]
theorem blk1_1 (c : Dev nD) (t : Fin cfg1.N) : iblk1 V c 1 t = V c main_v12_0 := by
  blk_ext! [iblk1, idx1 t]
theorem blk1_2 (c : Dev nD) (t : Fin cfg1.N) : iblk1 V c 2 t = V c main_v12_1 := by
  blk_ext! [iblk1, idx1 t]

/-- What the launch's body leaves of the block of point `t`, its inputs being the arrays' blocks there. -/
theorem point_at (c : Dev nD) {G : Fin 524288 → Fin 4 → ℝ} {T : Fin 40 → Fin 128 → ℝ} {U : Fin 32 → Fin 8 → ℝ}
    (hx : ∀ (i : Fin 4) (n : Fin 524288), V c main_v1 (ix2 i n) = (G n i : EReal))
    (ht : V c main_v12_0 = fun y : S40x128.Idx => ((T (y 0) (y 1) : ℝ) : EReal))
    (hv : V c main_v12_1 = fun y : S32x8.Idx => ((U (y 0) (y 1) : ℝ) : EReal)) (hpos : ∀ n, 0 < tokSsq U (G n))
    (t : Fin cfg1.N) (l : Fin 16384) (j : Fin 128) (n : Fin 524288) (hn : (n : ℕ) = t.val * 16384 + l.val) :
    out1_3 (F := Ideal) (iblk1 V c 0 t) (iblk1 V c 1 t) (iblk1 V c 2 t) (ix2 l j) = (tokOut T U (G n) j : EReal) := by
  have ht' (k : Fin 40) (j : Fin 128) : (V c main_v12_0 : FVec Ideal S40x128 .f32) (ix2 k j) = (T k j : EReal) :=
    congrFun ht (ix2 k j)
  have hv' (k : Fin 32) (q : Fin 8) : (V c main_v12_1 : FVec Ideal S32x8 .f32) (ix2 k q) = (U k q : EReal) :=
    congrFun hv (ix2 k q)
  have hlt := (idx1 t).2.2.2.2
  rw [blk1_1, blk1_2]
  have hb := block_at (G := fun l i => G ⟨t.val * 16384 + l.val, by omega⟩ i)
    (fun i l => (blk1_0 V c t i l).trans (hx i _)) ht' hv' (fun l => hpos _) l j
  have e : n = ⟨t.val * 16384 + l.val, by omega⟩ := Fin.ext hn
  rw [e]
  exact hb

/-- The output array after the token launch: every token's output from its features. -/
theorem out_arr (c : Dev nD) {G : Fin 524288 → Fin 4 → ℝ} {T : Fin 40 → Fin 128 → ℝ} {U : Fin 32 → Fin 8 → ℝ}
    (hx : ∀ (i : Fin 4) (n : Fin 524288), V c main_v1 (ix2 i n) = (G n i : EReal))
    (ht : V c main_v12_0 = fun y : S40x128.Idx => ((T (y 0) (y 1) : ℝ) : EReal))
    (hv : V c main_v12_1 = fun y : S32x8.Idx => ((U (y 0) (y 1) : ℝ) : EReal)) (hpos : ∀ n, 0 < tokSsq U (G n)) :
    (dat1 V c).arrAt 3 cfg1.N = fun y : S524288x128.Idx => ((tokOut T U (G (y 0)) (y 1) : ℝ) : EReal) := by
  refine (dat1 V c).arrAt_eq_of_covers 3 _ (by decide +kernel) fun t hf y => ?_
  blk_simp
  rw [after1_3]
  have e : (y : S16384x128.Idx) = ix2 (y 0) (y 1) := by
    funext a
    match a with
    | ⟨0, _⟩ => rfl
    | ⟨1, _⟩ => rfl
  have h0 : ((win1_3.blk t).view.emb y 0 : ℕ) = t.val * 16384 + (y 0).val := by
    blk_simp [idx1 t]
  have h1 : (win1_3.blk t).view.emb y 1 = (⟨(y 1).val, (y 1).isLt⟩ : Fin 128) := by
    refine Fin.ext ?_
    blk_simp [idx1 t]
  rw [h1]
  refine Eq.trans ?_ (point_at V c hx ht hv hpos t (y 0) (y 1) ((win1_3.blk t).view.emb y 0) h0)
  exact congrArg _ e

end Cert.KernelIdeal.Value

end
-- ==== Proof.Host.lean ====
/- What the host operations around the two launches hand over. -/
module

public import proofs.«01_k».proof.Proof.FoldVal
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.Maths Cert.Scalars

/-- The parameter arrays hold the real numbers of `P`. -/
structure Holds (P : Par) (wv : FVec Ideal S32x1 .f32) (bv : FVec Ideal S32 .f32) (obs msk : FVec Ideal S2x32 .f32)
    (ps : FVec Ideal S32x32 .f32) (wo : FVec Ideal S128x128 .f32) (bo g : FVec Ideal S128 .f32) : Prop where
  wv : ∀ k : Fin 32, wv (ix2 k 0) = (P.wv k : EReal)
  bv : ∀ k : Fin 32, bv (ix1 k) = (P.bv k : EReal)
  obs : ∀ (i : Fin 2) (k : Fin 32), obs (ix2 i k) = (P.obs i k : EReal)
  msk : ∀ (i : Fin 2) (k : Fin 32), msk (ix2 i k) = (P.msk i k : EReal)
  ps : ∀ r k : Fin 32, ps (ix2 r k) = (P.ps r k : EReal)
  wo : ∀ j k : Fin 128, wo (ix2 j k) = (P.wo j k : EReal)
  bo : ∀ j : Fin 128, bo (ix1 j) = (P.bo j : EReal)
  g : ∀ j : Fin 128, g (ix1 j) = (P.g j : EReal)

variable (m : (ℓ : Loc nD τ sig) → Buf (Elt Ideal) ℓ) (ρ : Dev nD → PrngReg)

set_option maxHeartbeats 1600000 in
/-- The packed narrow parameters the folding launch reads. -/
theorem v5_eq (c : Dev nD) : V1 m ρ c main_v5 = concatenate S8x32 0
    [⟨S1x32, shapeCast S1x32 (m ((c : Thread nD τ).loc main_arg1)) shapeCasts_S32x1_S1x32⟩,
     ⟨S1x32, shapeCast S1x32 (m ((c : Thread nD τ).loc main_arg2)) shapeCasts_S32_S1x32⟩,
     ⟨S2x32, m ((c : Thread nD τ).loc main_arg3)⟩, ⟨S2x32, m ((c : Thread nD τ).loc main_arg4)⟩,
     ⟨S2x32, broadcastInDim S2x32 ![] bcast_S_S2x32 (constant (F := Ideal) S_ .f32 0x00000000#32)⟩]
    concatenates_S1x32_S1x32_S2x32_S2x32_S2x32_S8x32_d0 := by
  show StableHlo.after hostOps0 (W0 m ρ c) (Proc.devRef .tc main_v5) = _
  unfold hostOps0
  after_results
  dsimp only [Matrix.cons_val]
  after_results_steps
  rfl

set_option maxHeartbeats 1600000 in
/-- The packed wide parameters the folding launch reads. -/
theorem v10_eq (c : Dev nD) : V1 m ρ c main_v10 = concatenate S8x128 0
    [⟨S1x128, shapeCast S1x128 (m ((c : Thread nD τ).loc main_arg7)) shapeCasts_S128_S1x128⟩,
     ⟨S1x128, shapeCast S1x128 (m ((c : Thread nD τ).loc main_arg8)) shapeCasts_S128_S1x128⟩,
     ⟨S1x128, shapeCast S1x128 (m ((c : Thread nD τ).loc main_arg9)) shapeCasts_S128_S1x128⟩,
     ⟨S5x128, broadcastInDim S5x128 ![] bcast_S_S5x128 (constant (F := Ideal) S_ .f32 0x00000000#32)⟩]
    concatenates_S1x128_S1x128_S1x128_S5x128_S8x128_d0 := by
  show StableHlo.after hostOps0 (W0 m ρ c) (Proc.devRef .tc main_v10) = _
  unfold hostOps0
  after_results
  dsimp only [Matrix.cons_val]
  after_results_steps
  rfl

/-- The weights the folding launch reads are transposed. -/
theorem v11_at (c : Dev nD) (k j : Fin 128) : V1 m ρ c main_v11 (ix2 k j) = m ((c : Thread nD τ).loc main_arg6) (ix2 j k) := by
  show StableHlo.after hostOps0 (W0 m ρ c) (Proc.devRef .tc main_v11) (ix2 k j) = _
  unfold hostOps0
  after_results
  pointwise

/-- Token number `n` of the flattened and transposed tokens. -/
theorem v1_at (c : Dev nD) (i : Fin 4) (n : Fin 524288) : V1 m ρ c main_v1 (ix2 i n) = m ((c : Thread nD τ).loc main_arg0) (ix4 ⟨n / 8192, by omega⟩ ⟨n / 32 % 256, by omega⟩ ⟨n % 32, by omega⟩ i) := by
  show StableHlo.after hostOps0 (W0 m ρ c) (Proc.devRef .tc main_v1) (ix2 i n) = _
  unfold hostOps0
  after_results
  pointwise
  blk_ext

/-- The packed rows of width 32: the value weights come first. -/
theorem v5_at0 (c : Dev nD) (k : Fin 32) : V1 m ρ c main_v5 (ix2 0 k) = m ((c : Thread nD τ).loc main_arg1) (ix2 k 0) := by
  rw [v5_eq]
  pointwise
theorem v5_at1 (c : Dev nD) (k : Fin 32) : V1 m ρ c main_v5 (ix2 1 k) = m ((c : Thread nD τ).loc main_arg2) (ix1 k) := by
  rw [v5_eq]
  pointwise
theorem v5_at2 (c : Dev nD) (k : Fin 32) : V1 m ρ c main_v5 (ix2 2 k) = m ((c : Thread nD τ).loc main_arg3) (ix2 0 k) := by
  rw [v5_eq]
  pointwise
theorem v5_at3 (c : Dev nD) (k : Fin 32) : V1 m ρ c main_v5 (ix2 3 k) = m ((c : Thread nD τ).loc main_arg3) (ix2 1 k) := by
  rw [v5_eq]
  pointwise
theorem v5_at4 (c : Dev nD) (k : Fin 32) : V1 m ρ c main_v5 (ix2 4 k) = m ((c : Thread nD τ).loc main_arg4) (ix2 0 k) := by
  rw [v5_eq]
  pointwise
theorem v5_at5 (c : Dev nD) (k : Fin 32) : V1 m ρ c main_v5 (ix2 5 k) = m ((c : Thread nD τ).loc main_arg4) (ix2 1 k) := by
  rw [v5_eq]
  pointwise
theorem v10_at0 (c : Dev nD) (k : Fin 128) : V1 m ρ c main_v10 (ix2 0 k) = m ((c : Thread nD τ).loc main_arg7) (ix1 k) := by
  rw [v10_eq]
  pointwise
theorem v10_at1 (c : Dev nD) (k : Fin 128) : V1 m ρ c main_v10 (ix2 1 k) = m ((c : Thread nD τ).loc main_arg8) (ix1 k) := by
  rw [v10_eq]
  pointwise

/-- What the folding launch reads, when the parameter arrays hold the real numbers of `P`. -/
theorem folds_of (c : Dev nD) {P : Par}
    (A : Holds P (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8))) :
    Folds P (V1 m ρ c main_v5) (V1 m ρ c main_v10) (V1 m ρ c main_arg5) (V1 m ρ c main_v11) where
  wv k := (v5_at0 m ρ c k).trans (A.wv k)
  bv k := (v5_at1 m ρ c k).trans (A.bv k)
  obs0 k := (v5_at2 m ρ c k).trans (A.obs 0 k)
  obs1 k := (v5_at3 m ρ c k).trans (A.obs 1 k)
  msk0 k := (v5_at4 m ρ c k).trans (A.msk 0 k)
  msk1 k := (v5_at5 m ρ c k).trans (A.msk 1 k)
  bo j := (v10_at0 m ρ c j).trans (A.bo j)
  g j := (v10_at1 m ρ c j).trans (A.g j)
  ps r k := (congrFun (W1_args m ρ c main_arg5 (by decide)) (ix2 r k)).trans (A.ps r k)
  wo k j := (v11_at m ρ c k j).trans (A.wo j k)

end Cert.KernelIdeal.Value

end
-- ==== Proof.KerOut.lean ====
/- The idealized kernel's result array, at real inputs: each token's normalised embedding. -/
module

public import proofs.«01_k».proof.Proof.Arr0
public import proofs.«01_k».proof.Proof.Arr1
public import proofs.«01_k».proof.Proof.Host

@[expose] public section

set_option maxRecDepth 16384

noncomputable section

namespace Cert.KernelIdeal.Value

open Idealize.ShloMosaic Idealize.ShloMosaic.TcCoe Idealize.SL.Sem
open Cert.KernelIdeal Cert.KernelIdeal.Gen Cert.Maths Cert.Scalars

/-- The table row a flag selects. -/
def flagOf (y : ℝ) : Fin 2 := ⟨clipIx 1 y, by have := clipIx_le 1 y; omega⟩

/-- A token's normalised embedding, from its four features. -/
def answer (P : Par) (f : Fin 4 → ℝ) (j : Fin 128) : ℝ :=
  lnorm (emb P (f 0 * f 1) (flagOf (f 1)) (flagOf (f 2)) (posOf (f 3))) P.g eps j

/-- The token kernel's closed form is the normalised embedding. -/
theorem tokOut_eq (P : Par) (hg : ∀ j, P.g j ≠ 0) (f : Fin 4 → ℝ) (j : Fin 128) :
    tokOut (tab P) (vt (gram P.g (tab P)) eps) f j = answer P f j :=
  kout_eq P hg eps (f 0 * f 1) (flagOf (f 1)) (flagOf (f 2)) (posOf (f 3)) j

/-- The quadratic form is a variance plus a positive constant. -/
theorem tokSsq_pos (P : Par) (hg : ∀ j, P.g j ≠ 0) (f : Fin 4 → ℝ) : 0 < tokSsq (vt (gram P.g (tab P)) eps) f := by
  have h := ssq_eq P hg eps (f 0 * f 1) (flagOf (f 1)) (flagOf (f 2)) (posOf (f 3))
  exact lt_of_lt_of_eq (varEps_pos _ _ eps_pos) h.symm

variable (m : (ℓ : Loc nD τ sig) → Buf (Elt Ideal) ℓ) (ρ : Dev nD → PrngReg)

/-- The last host operation reshapes the token launch's array. -/
theorem v14_at (c : Dev nD) (a : Fin 64) (b : Fin 256) (d : Fin 32) (j : Fin 128) :
    W4 m ρ c (Proc.devRef .tc main_v14) (ix4 a b d j)
      = W3 m ρ c (Proc.devRef .tc main_v13) (ix2 ⟨(a.val * 256 + b.val) * 32 + d.val, by omega⟩ j) := by
  show StableHlo.after hostOps2 (W3 m ρ c) (Proc.devRef .tc main_v14) (ix4 a b d j) = _
  unfold hostOps2
  after_results
  pointwise
  blk_ext

/-- The kernel's result at one token and column. -/
theorem result_at (c : Dev nD) {P : Par} (hg : ∀ j, P.g j ≠ 0) {X : Fin 64 → Fin 256 → Fin 32 → Fin 4 → ℝ}
    (hX : ∀ a b d i, m ((c : Thread nD τ).loc main_arg0) (ix4 a b d i) = (X a b d i : EReal))
    (A : Holds P (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)))
    (a : Fin 64) (b : Fin 256) (d : Fin 32) (j : Fin 128) :
    W4 m ρ c (Proc.devRef .tc main_v14) (ix4 a b d j) = (answer P (X a b d) j : EReal) := by
  have F := folds_of m ρ c A
  have ht : V2 m ρ c main_v12_0 = fun y : S40x128.Idx => ((tab P (y 0) (y 1) : ℝ) : EReal) :=
    (W2_arr m ρ c 4).trans (tab_arr (V1 m ρ) c F)
  have hv : V2 m ρ c main_v12_1 = fun y : S32x8.Idx => ((vt (gram P.g (tab P)) eps (y 0) (y 1) : ℝ) : EReal) :=
    (W2_arr m ρ c 5).trans (var_arr (V1 m ρ) c F hg)
  have h1 : V2 m ρ c main_v1 = V1 m ρ c main_v1 := W2_of_ne m ρ c main_v1 (by decide)
  have hx (i : Fin 4) (n : Fin 524288) : V2 m ρ c main_v1 (ix2 i n)
      = ((X ⟨n / 8192, by omega⟩ ⟨n / 32 % 256, by omega⟩ ⟨n % 32, by omega⟩ i : ℝ) : EReal) := by
    rw [h1]
    exact (v1_at m ρ c i n).trans (hX _ _ _ i)
  have hout := out_arr (V2 m ρ) c (G := fun n i => X ⟨n / 8192, by omega⟩ ⟨n / 32 % 256, by omega⟩ ⟨n % 32, by omega⟩ i)
    hx ht hv fun n => tokSsq_pos P hg _
  refine (v14_at m ρ c a b d j).trans ((congrFun ((W3_arr m ρ c 3).trans hout) _).trans ?_)
  refine (congrArg _ (tokOut_eq P hg _ j)).trans ?_
  have ea : (⟨((a.val * 256 + b.val) * 32 + d.val) / 8192, by omega⟩ : Fin 64) = a := Fin.ext (by show _ / 8192 = _; omega)
  have eb : (⟨((a.val * 256 + b.val) * 32 + d.val) / 32 % 256, by omega⟩ : Fin 256) = b := Fin.ext (by show _ / 32 % 256 = _; omega)
  have ed : (⟨((a.val * 256 + b.val) * 32 + d.val) % 32, by omega⟩ : Fin 32) = d := Fin.ext (by show _ % 32 = _; omega)
  show ((answer P (X ⟨((a.val * 256 + b.val) * 32 + d.val) / 8192, _⟩ ⟨((a.val * 256 + b.val) * 32 + d.val) / 32 % 256, _⟩
    ⟨((a.val * 256 + b.val) * 32 + d.val) % 32, _⟩) j : ℝ) : EReal) = _
  rw [ea, eb, ed]

end Cert.KernelIdeal.Value

end
-- ==== Proof.RefVal.lean ====
/- The reference's result array, at real inputs: each token's normalised embedding. -/
module

public import proofs.«01_k».proof.Proof.RefRows
public import proofs.«01_k».proof.Proof.KerOut

@[expose] public section

set_option maxRecDepth 16384

noncomputable section

namespace Cert.ReferenceIdeal.Value

open Idealize.ShloMosaic Idealize.ShloMosaic.TcCoe
open Cert.ReferenceIdeal Cert.Maths Cert.Scalars
open Cert.KernelIdeal.Value (Holds flagOf posOf answer)

variable {P : Par} {x : FVec Ideal S64x256x32x4 .f32} {wv : FVec Ideal S32x1 .f32} {bv : FVec Ideal S32 .f32}
  {obs mk : FVec Ideal S2x32 .f32} {ps : FVec Ideal S32x32 .f32} {wo : FVec Ideal S128x128 .f32} {bo g bt : FVec Ideal S128 .f32}
  {cm : IVec S64x32 1}

/-- The projected embedding of one token, from its four features. -/
theorem emb_at (A : Holds P wv bv obs mk ps wo bo g) (a : Fin 64) (b : Fin 256) (c : Fin 32) {f : Fin 4 → ℝ}
    (hx : ∀ i, x (ix4 a b c i) = (f i : EReal)) (h1 : -1 < f 1 ∧ f 1 < 2) (h2 : -1 < f 2 ∧ f 2 < 2) (j : Fin 128) :
    proj (featuresOf x wv bv obs mk ps) wo bo (ix4 a b c j)
      = (emb P (f 0 * f 1) (flagOf (f 1)) (flagOf (f 2)) (posOf (f 3)) j : EReal) := by
  have e1 : fptosi 32 (col1 x) (ix3 a b c) = BitVec.ofNat 32 (flagOf (f 1)).val := by
    show Ideal.fptosi 32 (col1 x (ix3 a b c)) = _
    rw [col1_at, hx, fptosi_flag _ h1.1 h1.2]
    rfl
  have e2 : fptosi 32 (col2 x) (ix3 a b c) = BitVec.ofNat 32 (flagOf (f 2)).val := by
    show Ideal.fptosi 32 (col2 x (ix3 a b c)) = _
    rw [col2_at, hx, fptosi_flag _ h2.1 h2.2]
    rfl
  have e3 : posIx (col3 x) (ix3 a b c) = BitVec.ofNat 32 (posOf (f 3)).val := by
    rw [posIx_at, col3_at, hx, lit_31, ← EReal.coe_mul]
    exact clip_fptosi (f 3 * 31)
  unfold featuresOf
  rw [proj_at]
  simp only [valueEmb_at, fun k => lookup2_at obs _ a b c k _ e1, fun k => lookup2_at mk _ a b c k _ e2,
    fun k => lookup32_at ps _ a b c k _ e3, hx, A.wv, A.bv, A.obs, A.msk, A.ps, A.wo, A.bo, ← EReal.coe_mul, ← EReal.coe_add,
    sum_coe]
  rfl

/-- The reference at one token and column: the normalised embedding. -/
theorem refOut_at (A : Holds P wv bv obs mk ps wo bo g) (a : Fin 64) (b : Fin 256) (c : Fin 32) {f : Fin 4 → ℝ}
    (hx : ∀ i, x (ix4 a b c i) = (f i : EReal)) (h1 : -1 < f 1 ∧ f 1 < 2) (h2 : -1 < f 2 ∧ f 2 < 2)
    (hb : ∀ j : Fin 128, bt (ix1 j) = 0) (hc : cm (ix2 a c) = 1#1) (j : Fin 128) :
    refOut x wv bv obs mk ps wo bo g bt cm (ix4 a b c j) = (answer P f j : EReal) := by
  have hpos := varEps_pos (emb P (f 0 * f 1) (flagOf (f 1)) (flagOf (f 2)) (posOf (f 3))) eps eps_pos
  have hs := sqrt_real _ hpos
  have hr : Real.sqrt (varEps (emb P (f 0 * f 1) (flagOf (f 1)) (flagOf (f 2)) (posOf (f 3))) eps) ≠ 0 :=
    (Real.sqrt_pos.2 hpos).ne'
  unfold varEps mean at hs hr
  unfold refOut
  rw [normed_at, hb, hc, uitofp_true, mul_one, add_zero]
  simp only [dev_at, fun j => emb_at (bo := bo) (wo := wo) A a b c hx h1 h2 j, lit_128, lit_eps, A.g, sum_coe,
    div_real _ _ (show (128 : ℝ) ≠ 0 by norm_num), ← EReal.coe_sub, ← EReal.coe_mul, ← EReal.coe_add, hs, div_real _ _ hr]
  rfl

end Cert.ReferenceIdeal.Value

end
-- ==== Proof.Pre.lean ====
/- What the precondition says of the argument arrays: real numbers, index features in range, a scale without zeros, no
   shift, and every column kept. -/
module

public import proofs.«01_k».proof.Pre_pre
public import proofs.«01_k».proof.Proof.KerOut

@[expose] public section

set_option maxRecDepth 16384

noncomputable section

namespace Cert.Pre_pre

open Idealize.ShloMosaic
open Cert.Maths Cert.Scalars
open Cert.KernelIdeal.Value (Holds)

/-- The shape relations the precondition's operations take. -/
theorem facts : Facts :=
  ⟨by decide, by decide, by decide, by decide, by decide, by decide, by decide, by decide, by decide⟩

/-- A comparison's word as the comparison. -/
theorem ofBool_one {b : Bool} (h : BitVec.ofBool b = 1#1) : b = true := by
  revert h; cases b <;> decide

/-- A number whose absolute value is below infinity is real. -/
theorem real_of_abs_lt (x : EReal) (h : max x (-x) < ⊤) : x = ((x.toReal : ℝ) : EReal) := by
  refine (EReal.coe_toReal ?_ ?_).symm
  · rintro rfl
    simp at h
  · rintro rfl
    simp at h

/-- The literal infinity. -/
theorem lit_inf : Ideal.ofBits .f32 0x7F800000#32 = ⊤ := by
  simp [Ideal.ofBits, Ideal.ieee]

/-- The literal minus one. -/
theorem lit_neg_one : Ideal.ofBits .f32 0xBF800000#32 = ((-1 : ℝ) : EReal) := by
  simp [Ideal.ofBits, Ideal.ieee, -EReal.coe_mul]
  norm_num

/-- The literal zero. -/
theorem lit_zero : Ideal.ofBits .f32 0x00000000#32 = (0 : EReal) := by
  simp [Ideal.ofBits, Ideal.ieee]

variable [Facts]
open Facts

/-- An array that passes the finiteness test holds real numbers. -/
theorem finite_at {s : Shape} (v : FVec Ideal s .f32) (hb : S_.BroadcastsInDim s (![] : Fin 0 → Fin s.rank))
    (h : cmpf .olt (Host.absf v) (broadcastInDim s ![] hb (constant (F := Ideal) S_ .f32 0x7F800000#32)) = fun _ => 1#1)
    (i : s.Idx) : v i = (((v i : EReal).toReal : ℝ) : EReal) := by
  have h := congrFun h i
  refine real_of_abs_lt _ ?_
  have h2 : Ideal.cmp .olt (max (v i : EReal) (-(v i : EReal))) (Ideal.ofBits .f32 0x7F800000#32) = 1#1 := h
  rw [lit_inf] at h2
  exact of_decide_eq_true (ofBool_one h2)

variable (x : FVec Ideal S64x256x32x4 .f32) (wv : FVec Ideal S32x1 .f32) (bv : FVec Ideal S32 .f32)
  (obs msk : FVec Ideal S2x32 .f32) (ps : FVec Ideal S32x32 .f32) (wo : FVec Ideal S128x128 .f32) (bo g bt : FVec Ideal S128 .f32)
  (cm : IVec S64x32 1)

/-- Every output of the precondition is true everywhere. -/
def Pass : Prop :=
  (fn (F := Ideal) x wv bv obs msk ps wo bo g bt cm).1 = (fun _ => 1#1)
  ∧ (fn (F := Ideal) x wv bv obs msk ps wo bo g bt cm).2.1 = (fun _ => 1#1)
  ∧ (fn (F := Ideal) x wv bv obs msk ps wo bo g bt cm).2.2.1 = (fun _ => 1#1)
  ∧ (fn (F := Ideal) x wv bv obs msk ps wo bo g bt cm).2.2.2.1 = (fun _ => 1#1)
  ∧ (fn (F := Ideal) x wv bv obs msk ps wo bo g bt cm).2.2.2.2.1 = (fun _ => 1#1)
  ∧ (fn (F := Ideal) x wv bv obs msk ps wo bo g bt cm).2.2.2.2.2.1 = (fun _ => 1#1)
  ∧ (fn (F := Ideal) x wv bv obs msk ps wo bo g bt cm).2.2.2.2.2.2.1 = (fun _ => 1#1)
  ∧ (fn (F := Ideal) x wv bv obs msk ps wo bo g bt cm).2.2.2.2.2.2.2.1 = (fun _ => 1#1)
  ∧ (fn (F := Ideal) x wv bv obs msk ps wo bo g bt cm).2.2.2.2.2.2.2.2.1 = (fun _ => 1#1)
  ∧ (fn (F := Ideal) x wv bv obs msk ps wo bo g bt cm).2.2.2.2.2.2.2.2.2.1 = (fun _ => 1#1)
  ∧ (fn (F := Ideal) x wv bv obs msk ps wo bo g bt cm).2.2.2.2.2.2.2.2.2.2.1 = (fun _ => 1#1)
  ∧ (fn (F := Ideal) x wv bv obs msk ps wo bo g bt cm).2.2.2.2.2.2.2.2.2.2.2.1 = (fun _ => 1#1)
  ∧ (fn (F := Ideal) x wv bv obs msk ps wo bo g bt cm).2.2.2.2.2.2.2.2.2.2.2.2 = (fun _ => 1#1)

/-- The real parameters in the arrays. -/
def par : Par where
  wv k := (wv (ix2 k 0) : EReal).toReal
  bv k := (bv (ix1 k) : EReal).toReal
  obs i k := (obs (ix2 i k) : EReal).toReal
  msk i k := (msk (ix2 i k) : EReal).toReal
  ps r k := (ps (ix2 r k) : EReal).toReal
  wo j k := (wo (ix2 j k) : EReal).toReal
  bo j := (bo (ix1 j) : EReal).toReal
  g j := (g (ix1 j) : EReal).toReal

/-- The real features in the token array. -/
def feat (a : Fin 64) (b : Fin 256) (d : Fin 32) (i : Fin 4) : ℝ := (x (ix4 a b d i) : EReal).toReal

variable {x wv bv obs msk ps wo bo g bt cm}

/-- The parameter arrays hold real numbers. -/
theorem holds_of (h : Pass x wv bv obs msk ps wo bo g bt cm) :
    Holds (par wv bv obs msk ps wo bo g) wv bv obs msk ps wo bo g where
  wv k := finite_at wv bcast_S_S32x1 h.2.1 _
  bv k := finite_at bv bcast_S_S32 h.2.2.1 _
  obs i k := finite_at obs bcast_S_S2x32 h.2.2.2.1 _
  msk i k := finite_at msk bcast_S_S2x32 h.2.2.2.2.1 _
  ps r k := finite_at ps bcast_S_S32x32 h.2.2.2.2.2.1 _
  wo j k := finite_at wo bcast_S_S128x128 h.2.2.2.2.2.2.1 _
  bo j := finite_at bo bcast_S_S128 h.2.2.2.2.2.2.2.1 _
  g j := finite_at g bcast_S_S128 h.2.2.2.2.2.2.2.2.1 _

/-- The tokens' features are real numbers. -/
theorem feat_of (h : Pass x wv bv obs msk ps wo bo g bt cm) (a : Fin 64) (b : Fin 256) (d : Fin 32) (i : Fin 4) :
    x (ix4 a b d i) = (feat x a b d i : EReal) :=
  finite_at x bcast_S_S64x256x32x4 h.1 _

/-- The scale has no zeros. -/
theorem scale_of (h : Pass x wv bv obs msk ps wo bo g bt cm) (j : Fin 128) : (par wv bv obs msk ps wo bo g).g j ≠ 0 := by
  have h1 : Ideal.cmp .une (g (ix1 j) : EReal) (Ideal.ofBits .f32 0x00000000#32) = 1#1 :=
    congrFun h.2.2.2.2.2.2.2.2.2.2.1 (ix1 j)
  have h2 : (g (ix1 j) : EReal) ≠ Ideal.ofBits .f32 0x00000000#32 := of_decide_eq_true (ofBool_one h1)
  intro e
  refine h2 ?_
  rw [lit_zero]
  refine ((holds_of h).g j).trans ?_
  rw [e]
  rfl

/-- The shift is zero. -/
theorem shift_of (h : Pass x wv bv obs msk ps wo bo g bt cm) (j : Fin 128) : bt (ix1 j) = (0 : EReal) := by
  have h1 : Ideal.cmp .oeq (bt (ix1 j) : EReal) (Ideal.ofBits .f32 0x00000000#32) = 1#1 :=
    congrFun h.2.2.2.2.2.2.2.2.2.2.2.1 (ix1 j)
  have h2 : (bt (ix1 j) : EReal) = Ideal.ofBits .f32 0x00000000#32 := of_decide_eq_true (ofBool_one h1)
  rw [h2, lit_zero]

/-- Every column is kept. -/
theorem keep_of (h : Pass x wv bv obs msk ps wo bo g bt cm) (a : Fin 64) (d : Fin 32) : cm (ix2 a d) = 1#1 :=
  congrFun h.2.2.2.2.2.2.2.2.2.2.2.2 (ix2 a d)

/-- A conjunction of two words. -/
theorem both_one {p q : BitVec 1} (h : IntOp.andi p q = 1#1) : p = 1#1 ∧ q = 1#1 := by
  revert p q; decide

/-- The two index features lie strictly between minus one and two. -/
theorem range_of (h : Pass x wv bv obs msk ps wo bo g bt cm) (a : Fin 64) (b : Fin 256) (d : Fin 32) (i : Fin 2) (i' : Fin 4)
    (hi : (i' : ℕ) = 1 + i) : -1 < feat x a b d i' ∧ feat x a b d i' < 2 := by
  have hs : extractStridedSlice S64x256x32x2 ![0, 0, 0, 1] x slices_S64x256x32x4_S64x256x32x2_0_0_0_1 (ix4 a b d i)
      = x (ix4 a b d i') := by
    pointwise
    blk_ext
  have h1 : IntOp.andi
      (Ideal.cmp .ogt (extractStridedSlice S64x256x32x2 ![0, 0, 0, 1] x slices_S64x256x32x4_S64x256x32x2_0_0_0_1 (ix4 a b d i) : EReal)
        (Ideal.ofBits .f32 0xBF800000#32))
      (Ideal.cmp .olt (extractStridedSlice S64x256x32x2 ![0, 0, 0, 1] x slices_S64x256x32x4_S64x256x32x2_0_0_0_1 (ix4 a b d i) : EReal)
        (Ideal.ofBits .f32 0x40000000#32)) = 1#1 :=
    congrFun h.2.2.2.2.2.2.2.2.2.1 (ix4 a b d i)
  rw [hs, feat_of h, lit_neg_one, lit_2] at h1
  have h2 : ((-1 : ℝ) : EReal) < (feat x a b d i' : EReal) := of_decide_eq_true (ofBool_one (both_one h1).1)
  have h3 : (feat x a b d i' : EReal) < ((2 : ℝ) : EReal) := of_decide_eq_true (ofBool_one (both_one h1).2)
  exact ⟨EReal.coe_lt_coe_iff.1 h2, EReal.coe_lt_coe_iff.1 h3⟩

end Cert.Pre_pre

end
-- ==== Proof.Agree.lean ====
/- The two programs' results are the same array: both hold, at a token and a lane, the answer worked out on that token's
   features. -/
module

public import proofs.«01_k».proof.Proof.RefVal
public import proofs.«01_k».proof.Proof.RefTerm
public import proofs.«01_k».proof.Proof.Pre

@[expose] public section

set_option maxRecDepth 16384

noncomputable section

namespace Cert.Agree

open Idealize.ShloMosaic Idealize.SL.Sem
open Cert.KernelIdeal

variable [Cert.Pre_pre.Facts] (m : (ℓ : Loc nD τ sig) → Buf (Elt Ideal) ℓ) (ρ : Dev nD → PrngReg) (c : Dev nD)

/-- From arguments that pass the precondition, the reference's array is the kernel's. -/
theorem ref_eq
    (h : Cert.Pre_pre.Pass (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) :
    Cert.ReferenceIdeal.Value.refOut (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
    = Gen.W4 m ρ c (Proc.devRef .tc main_v14) := by
  funext y
  obtain ⟨a, b, d, j, rfl⟩ : ∃ (a : Fin 64) (b : Fin 256) (d : Fin 32) (j : Fin 128), y = ix4 a b d j :=
    ⟨y 0, y 1, y 2, y 3, eq_ix4 y⟩
  exact (Cert.ReferenceIdeal.Value.refOut_at (Cert.Pre_pre.holds_of h) a b d (Cert.Pre_pre.feat_of h a b d)
    (Cert.Pre_pre.range_of h a b d 0 1 rfl) (Cert.Pre_pre.range_of h a b d 1 2 rfl) (Cert.Pre_pre.shift_of h)
    (Cert.Pre_pre.keep_of h a d) j).trans
    (Value.result_at m ρ c (Cert.Pre_pre.scale_of h) (Cert.Pre_pre.feat_of h) (Cert.Pre_pre.holds_of h) a b d j).symm

end Cert.Agree

end
-- ==== Proof.lean ====
/- The certificate: each program runs and leaves its arguments and counters alone, and at exact numbers the kernel and
   the reference end with the same array wherever the precondition holds. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs and comes to rest, whatever its arguments. -/
theorem rest_kernel : Cert.quiescent_Kernel := fun m ρ _ => Cert.Kernel.Gen.frame m ρ

/-- So does its ideal reading. -/
theorem rest_ideal : Cert.quiescent_KernelIdeal := fun m ρ _ => Cert.KernelIdeal.Gen.frame m ρ

/-- The reference runs, leaves its arguments alone, and has no counters to disturb. -/
theorem rest_reference : Cert.quiescent_ReferenceIdeal := fun m ρ _ =>
  θ_run_mono (Cert.ReferenceIdeal.Value.run m ρ) fun r h => ⟨fun c => (h c).2, sem_eq_zero_of_no_sems (by decide) r.2⟩

/-- Where the precondition holds, the kernel and the reference end with the same array. -/
theorem same_result [Cert.Pre_pre.Facts] : Cert.algebraic_KernelIdeal_ReferenceIdeal_pre_pre := by
  intro m g m' g' hpre hagree
  refine ⟨fun c => Cert.KernelIdeal.Gen.W4 m g c (Proc.devRef .tc Cert.KernelIdeal.main_v14), ?_, ?_⟩
  · refine θ_run_mono (Cert.KernelIdeal.Value.run m g) fun r h c => ⟨(h c).1, ?_⟩
    have ha := (h c).2
    refine ⟨ha _ ?_, ha _ ?_, ha _ ?_, ha _ ?_, ha _ ?_, ha _ ?_, ha _ ?_, ha _ ?_, ha _ ?_, ha _ ?_, ha _ ?_⟩ <;> decide
  · refine θ_run_mono (Cert.ReferenceIdeal.Value.run m' g') fun r h c => ⟨(h c).1.trans ?_, (h c).2⟩
    obtain ⟨e0, e1, e2, e3, e4, e5, e6, e7, e8, e9, e10⟩ := hagree c
    rw [Cert.ReferenceIdeal.Value.res_eq, e0, e1, e2, e3, e4, e5, e6, e7, e8, e9, e10]
    exact Cert.Agree.ref_eq m g c (hpre c)

/-- Everything the certificate claims. -/
theorem claim : Cert.Claim :=
  ⟨Cert.Kernel.Gen.facts, Cert.KernelIdeal.Gen.facts, Cert.ReferenceIdeal.Gen.facts, Cert.Pre_pre.facts,
    rest_kernel, rest_ideal, fun m ρ _ => rest_ideal m ρ trivial, rest_reference, fun m ρ _ => rest_reference m ρ trivial,
    trivial, @same_result Cert.Pre_pre.facts⟩

end Cert.Proof

end
